-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_floats_binary_labels [hPre_finite_floats_binary_labels : Cert.Pre_finite_floats_binary_labels.Facts] (m : (ℓ : Loc Cert.KernelIdeal.nD Cert.KernelIdeal.τ Cert.KernelIdeal.sig) → Buf (Elt Ideal) ℓ) : Prop :=
  ∀ c : Dev Cert.KernelIdeal.nD,
    (Cert.Pre_finite_floats_binary_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_floats_binary_labels [hPre_finite_floats_binary_labels : Cert.Pre_finite_floats_binary_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_floats_binary_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_floats_binary_labels [hKernelIdeal : Cert.KernelIdeal.Facts] [hPre_finite_floats_binary_labels : Cert.Pre_finite_floats_binary_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_floats_binary_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_floats_binary_labels [hReferenceIdeal : Cert.ReferenceIdeal.Facts] [hPre_finite_floats_binary_labels : Cert.Pre_finite_floats_binary_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_floats_binary_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.bf16_pack.Statement Cert.KernelIdeal.S256x128
  ∧ IdealRules.bf16_pack.Statement Cert.KernelIdeal.S4096x256

def algebraic_KernelIdeal_ReferenceIdeal_pre_finite_floats_binary_labels [hKernelIdeal : Cert.KernelIdeal.Facts] [hReferenceIdeal : Cert.ReferenceIdeal.Facts] [hPre_finite_floats_binary_labels : Cert.Pre_finite_floats_binary_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_floats_binary_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_floats_binary_labels : Cert.Pre_finite_floats_binary_labels.Facts),
    quiescent_Kernel (hKernel := hKernel)
    ∧ quiescent_KernelIdeal (hKernelIdeal := hKernelIdeal)
    ∧ quiescent_KernelIdeal_pre_finite_floats_binary_labels (hKernelIdeal := hKernelIdeal) (hPre_finite_floats_binary_labels := hPre_finite_floats_binary_labels)
    ∧ quiescent_ReferenceIdeal (hReferenceIdeal := hReferenceIdeal)
    ∧ quiescent_ReferenceIdeal_pre_finite_floats_binary_labels (hReferenceIdeal := hReferenceIdeal) (hPre_finite_floats_binary_labels := hPre_finite_floats_binary_labels)
    ∧ preserves_Kernel_KernelIdeal
    ∧ algebraic_KernelIdeal_ReferenceIdeal_pre_finite_floats_binary_labels (hKernelIdeal := hKernelIdeal) (hReferenceIdeal := hReferenceIdeal) (hPre_finite_floats_binary_labels := hPre_finite_floats_binary_labels)
-- ==== Pre_finite_floats_binary_labels.lean ====
abbrev S131072x256 : Shape := ⟨2, ![131072, 256]⟩
abbrev S131072 : Shape := ⟨1, ![131072]⟩
abbrev S128x256 : Shape := ⟨2, ![128, 256]⟩
abbrev S128 : Shape := ⟨1, ![128]⟩
abbrev S4x64 : Shape := ⟨2, ![4, 64]⟩
abbrev S4 : Shape := ⟨1, ![4]⟩
abbrev S1x384 : Shape := ⟨2, ![1, 384]⟩
abbrev S1 : Shape := ⟨1, ![1]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S1x384 : S_.BroadcastsInDim S1x384 (![] : Fin 0 → Fin S1x384.rank)
  reducesTo_S1x384_S_d0_1 : S1x384.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v80 : IVec S_ 1) (main_v84 : IVec S_ 1) : IVec S_ 1 :=
  let main_v85 : IVec S_ 1 := andi main_v80 main_v84
  main_v85

def fn_part4 {F : FTy → Type} [FloatOps F] (main_arg16 : FVec F S4 .f32) (main_arg17 : FVec F S1x384 .f32) (main_arg18 : FVec F S1 .f32) (main_v65 : IVec S_ 1) (main_v66 : FVec F S4x64 .f32) (main_v67 : FVec F S4x64 .f32) : IVec S_ 1 :=
  let main_v68 : IVec S4x64 1 := cmpf .olt main_v66 main_v67
  let main_c_26 : IVec S_ 1 := constantI S_ 1 1#1
  let main_v69 : IVec S_ 1 := (fun x v => Host.reduce IntOp.andi x v reducesTo_S4x64_S_d0_1 h_S_) main_v68 main_c_26
  let main_v70 : IVec S_ 1 := andi main_v65 main_v69
  let main_v71 : FVec F S4 .f32 := Host.absf main_arg16
  let main_cst_27 : FVec F S_ .f32 := constant S_ .f32 0x7F800000#32
  let main_v72 : FVec F S4 .f32 := broadcastInDim S4 ![] bcast_S_S4 main_cst_27
  let main_v73 : IVec S4 1 := cmpf .olt main_v71 main_v72
  let main_c_28 : IVec S_ 1 := constantI S_ 1 1#1
  let main_v74 : IVec S_ 1 := (fun x v => Host.reduce IntOp.andi x v reducesTo_S4_S_d0 h_S_) main_v73 main_c_28
  let main_v75 : IVec S_ 1 := andi main_v70 main_v74
  let main_v76 : FVec F S1x384 .f32 := Host.absf main_arg17
  let main_cst_29 : FVec F S_ .f32 := constant S_ .f32 0x7F800000#32
  let main_v77 : FVec F S1x384 .f32 := broadcastInDim S1x384 ![] bcast_S_S1x384 main_cst_29
  let main_v78 : IVec S1x384 1 := cmpf .olt main_v76 main_v77
  let main_c_30 : IVec S_ 1 := constantI S_ 1 1#1
  let main_v79 : IVec S_ 1 := (fun x v => Host.reduce IntOp.andi x v reducesTo_S1x384_S_d0_1 h_S_) main_v78 main_c_30
  let main_v80 : IVec S_ 1 := andi main_v75 main_v79
  let main_v81 : FVec F S1 .f32 := Host.absf main_arg18
  let main_cst_31 : FVec F S_ .f32 := constant S_ .f32 0x7F800000#32
  let main_v82 : FVec F S1 .f32 := broadcastInDim S1 ![] bcast_S_S1 main_cst_31
  let main_v83 : IVec S1 1 := cmpf .olt main_v81 main_v82
  let main_c_32 : IVec S_ 1 := constantI S_ 1 1#1
  let main_v84 : IVec S_ 1 := (fun x v => Host.reduce IntOp.andi x v reducesTo_S1_S_d0 h_S_) main_v83 main_c_32
  fn_part5 (F := F) main_v80 main_v84

def fn_part3 {F : FTy → Type} [FloatOps F] (main_arg12 : FVec F S128 .f32) (main_arg13 : FVec F S128x256 .f32) (main_arg14 : FVec F S128 .f32) (main_arg15 : FVec F S4x64 .f32) (main_arg16 : FVec F S4 .f32) (main_arg17 : FVec F S1x384 .f32) (main_arg18 : FVec F S1 .f32) (main_v50 : IVec S_ 1) : IVec S_ 1 :=
  let main_v51 : FVec F S128 .f32 := Host.absf main_arg12
  let main_cst_19 : FVec F S_ .f32 := constant S_ .f32 0x7F800000#32
  let main_v52 : FVec F S128 .f32 := broadcastInDim S128 ![] bcast_S_S128 main_cst_19
  let main_v53 : IVec S128 1 := cmpf .olt main_v51 main_v52
  let main_c_20 : IVec S_ 1 := constantI S_ 1 1#1
  let main_v54 : IVec S_ 1 := (fun x v => Host.reduce IntOp.andi x v reducesTo_S128_S_d0 h_S_) main_v53 main_c_20
  let main_v55 : IVec S_ 1 := andi main_v50 main_v54
  let main_v56 : FVec F S128x256 .f32 := Host.absf main_arg13
  let main_cst_21 : FVec F S_ .f32 := constant S_ .f32 0x7F800000#32
  let main_v57 : FVec F S128x256 .f32 := broadcastInDim S128x256 ![] bcast_S_S128x256 main_cst_21
  let main_v58 : IVec S128x256 1 := cmpf .olt main_v56 main_v57
  let main_c_22 : IVec S_ 1 := constantI S_ 1 1#1
  let main_v59 : IVec S_ 1 := (fun x v => Host.reduce IntOp.andi x v reducesTo_S128x256_S_d0_1 h_S_) main_v58 main_c_22
  let main_v60 : IVec S_ 1 := andi main_v55 main_v59
  let main_v61 : FVec F S128 .f32 := Host.absf main_arg14
  let main_cst_23 : FVec F S_ .f32 := constant S_ .f32 0x7F800000#32
  let main_v62 : FVec F S128 .f32 := broadcastInDim S128 ![] bcast_S_S128 main_cst_23
  let main_v63 : IVec S128 1 := cmpf .olt main_v61 main_v62
  let main_c_24 : IVec S_ 1 := constantI S_ 1 1#1
  let main_v64 : IVec S_ 1 := (fun x v => Host.reduce IntOp.andi x v reducesTo_S128_S_d0 h_S_) main_v63 main_c_24
  let main_v65 : IVec S_ 1 := andi main_v60 main_v64
  let main_v66 : FVec F S4x64 .f32 := Host.absf main_arg15
  let main_cst_25 : FVec F S_ .f32 := constant S_ .f32 0x7F800000#32
  let main_v67 : FVec F S4x64 .f32 := broadcastInDim S4x64 ![] bcast_S_S4x64 main_cst_25
  fn_part4 (F := F) main_arg16 main_arg17 main_arg18 main_v65 main_v66 main_v67

def fn_part2 {F : FTy → Type} [FloatOps F] (main_arg9 : FVec F S128x256 .f32) (main_arg10 : FVec F S128 .f32) (main_arg11 : FVec F S128x256 .f32) (main_arg12 : FVec F S128 .f32) (main_arg13 : FVec F S128x256 .f32) (main_arg14 : FVec F S128 .f32) (main_arg15 : FVec F S4x64 .f32) (main_arg16 : FVec F S4 .f32) (main_arg17 : FVec F S1x384 .f32) (main_arg18 : FVec F S1 .f32) (main_v30 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v30 main_v34
  let main_v36 : FVec F S128x256 .f32 := Host.absf main_arg9
  let main_cst_13 : FVec F S_ .f32 := constant S_ .f32 0x7F800000#32
  let main_v37 : FVec F S128x256 .f32 := broadcastInDim S128x256 ![] bcast_S_S128x256 main_cst_13
  let main_v38 : IVec S128x256 1 := cmpf .olt main_v36 main_v37
  let main_c_14 : IVec S_ 1 := constantI S_ 1 1#1
  let main_v39 : IVec S_ 1 := (fun x v => Host.reduce IntOp.andi x v reducesTo_S128x256_S_d0_1 h_S_) main_v38 main_c_14
  let main_v40 : IVec S_ 1 := andi main_v35 main_v39
  let main_v41 : FVec F S128 .f32 := Host.absf main_arg10
  let main_cst_15 : FVec F S_ .f32 := constant S_ .f32 0x7F800000#32
  let main_v42 : FVec F S128 .f32 := broadcastInDim S128 ![] bcast_S_S128 main_cst_15
  let main_v43 : IVec S128 1 := cmpf .olt main_v41 main_v42
  let main_c_16 : IVec S_ 1 := constantI S_ 1 1#1
  let main_v44 : IVec S_ 1 := (fun x v => Host.reduce IntOp.andi x v reducesTo_S128_S_d0 h_S_) main_v43 main_c_16
  let main_v45 : IVec S_ 1 := andi main_v40 main_v44
  let main_v46 : FVec F S128x256 .f32 := Host.absf main_arg11
  let main_cst_17 : FVec F S_ .f32 := constant S_ .f32 0x7F800000#32
  let main_v47 : FVec F S128x256 .f32 := broadcastInDim S128x256 ![] bcast_S_S128x256 main_cst_17
  let main_v48 : IVec S128x256 1 := cmpf .olt main_v46 main_v47
  let main_c_18 : IVec S_ 1 := constantI S_ 1 1#1
  let main_v49 : IVec S_ 1 := (fun x v => Host.reduce IntOp.andi x v reducesTo_S128x256_S_d0_1 h_S_) main_v48 main_c_18
  let main_v50 : IVec S_ 1 := andi main_v45 main_v49
  fn_part3 (F := F) main_arg12 main_arg13 main_arg14 main_arg15 main_arg16 main_arg17 main_arg18 main_v50

def fn_part1 {F : FTy → Type} [FloatOps F] (main_arg4 : FVec F S128 .f32) (main_arg7 : FVec F S128x256 .f32) (main_arg8 : FVec F S128 .f32) (main_arg9 : FVec F S128x256 .f32) (main_arg10 : FVec F S128 .f32) (main_arg11 : FVec F S128x256 .f32) (main_arg12 : FVec F S128 .f32) (main_arg13 : FVec F S128x256 .f32) (main_arg14 : FVec F S128 .f32) (main_arg15 : FVec F S4x64 .f32) (main_arg16 : FVec F S4 .f32) (main_arg17 : FVec F S1x384 .f32) (main_arg18 : FVec F S1 .f32) (main_v15 : IVec S_ 1) (main_v16 : FVec F S128x256 .f32) : IVec S_ 1 :=
  let main_cst_5 : FVec F S_ .f32 := constant S_ .f32 0x7F800000#32
  let main_v17 : FVec F S128x256 .f32 := broadcastInDim S128x256 ![] bcast_S_S128x256 main_cst_5
  let main_v18 : IVec S128x256 1 := cmpf .olt main_v16 main_v17
  let main_c_6 : IVec S_ 1 := constantI S_ 1 1#1
  let main_v19 : IVec S_ 1 := (fun x v => Host.reduce IntOp.andi x v reducesTo_S128x256_S_d0_1 h_S_) main_v18 main_c_6
  let main_v20 : IVec S_ 1 := andi main_v15 main_v19
  let main_v21 : FVec F S128 .f32 := Host.absf main_arg4
  let main_cst_7 : FVec F S_ .f32 := constant S_ .f32 0x7F800000#32
  let main_v22 : FVec F S128 .f32 := broadcastInDim S128 ![] bcast_S_S128 main_cst_7
  let main_v23 : IVec S128 1 := cmpf .olt main_v21 main_v22
  let main_c_8 : IVec S_ 1 := constantI S_ 1 1#1
  let main_v24 : IVec S_ 1 := (fun x v => Host.reduce IntOp.andi x v reducesTo_S128_S_d0 h_S_) main_v23 main_c_8
  let main_v25 : IVec S_ 1 := andi main_v20 main_v24
  let main_v26 : FVec F S128x256 .f32 := Host.absf main_arg7
  let main_cst_9 : FVec F S_ .f32 := constant S_ .f32 0x7F800000#32
  let main_v27 : FVec F S128x256 .f32 := broadcastInDim S128x256 ![] bcast_S_S128x256 main_cst_9
  let main_v28 : IVec S128x256 1 := cmpf .olt main_v26 main_v27
  let main_c_10 : IVec S_ 1 := constantI S_ 1 1#1
  let main_v29 : IVec S_ 1 := (fun x v => Host.reduce IntOp.andi x v reducesTo_S128x256_S_d0_1 h_S_) main_v28 main_c_10
  let main_v30 : IVec S_ 1 := andi main_v25 main_v29
  let main_v31 : FVec F S128 .f32 := Host.absf main_arg8
  let main_cst_11 : FVec F S_ .f32 := constant S_ .f32 0x7F800000#32
  let main_v32 : FVec F S128 .f32 := broadcastInDim S128 ![] bcast_S_S128 main_cst_11
  let main_v33 : IVec S128 1 := cmpf .olt main_v31 main_v32
  fn_part2 (F := F) main_arg9 main_arg10 main_arg11 main_arg12 main_arg13 main_arg14 main_arg15 main_arg16 main_arg17 main_arg18 main_v30 main_v33

def fn {F : FTy → Type} [FloatOps F] (main_arg0 : FVec F S131072x256 .f32) (main_arg1 : FVec F S131072x256 .f32) (main_arg2 : IVec S131072 32) (main_arg3 : FVec F S128x256 .f32) (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_arg11 : FVec F S128x256 .f32) (main_arg12 : FVec F S128 .f32) (main_arg13 : FVec F S128x256 .f32) (main_arg14 : FVec F S128 .f32) (main_arg15 : FVec F S4x64 .f32) (main_arg16 : FVec F S4 .f32) (main_arg17 : FVec F S1x384 .f32) (main_arg18 : FVec F S1 .f32) : IVec S_ 1 :=
  let main_c : IVec S_ 32 := constantI S_ 32 0#32
  let main_v0 : IVec S131072 32 := broadcastInDim S131072 ![] bcast_S_S131072 main_c
  let main_v1 : IVec S131072 1 := cmpi .eq main_arg2 main_v0
  let main_c_0 : IVec S_ 32 := constantI S_ 32 1#32
  let main_v2 : IVec S131072 32 := broadcastInDim S131072 ![] bcast_S_S131072 main_c_0
  let main_v3 : IVec S131072 1 := cmpi .eq main_arg2 main_v2
  let main_v4 : IVec S131072 1 := ori main_v1 main_v3
  let main_c_1 : IVec S_ 1 := constantI S_ 1 1#1
  let main_v5 : IVec S_ 1 := (fun x v => Host.reduce IntOp.andi x v reducesTo_S131072_S_d0 h_S_) main_v4 main_c_1
  let main_v6 : FVec F S131072x256 .f32 := Host.absf main_arg0
  let main_cst : FVec F S_ .f32 := constant S_ .f32 0x7F800000#32
  let main_v7 : FVec F S131072x256 .f32 := broadcastInDim S131072x256 ![] bcast_S_S131072x256 main_cst
  let main_v8 : IVec S131072x256 1 := cmpf .olt main_v6 main_v7
  let main_c_2 : IVec S_ 1 := constantI S_ 1 1#1
  let main_v9 : IVec S_ 1 := (fun x v => Host.reduce IntOp.andi x v reducesTo_S131072x256_S_d0_1 h_S_) main_v8 main_c_2
  let main_v10 : IVec S_ 1 := andi main_v5 main_v9
  let main_v11 : FVec F S131072x256 .f32 := Host.absf main_arg1
  let main_cst_3 : FVec F S_ .f32 := constant S_ .f32 0x7F800000#32
  let main_v12 : FVec F S131072x256 .f32 := broadcastInDim S131072x256 ![] bcast_S_S131072x256 main_cst_3
  let main_v13 : IVec S131072x256 1 := cmpf .olt main_v11 main_v12
  let main_c_4 : IVec S_ 1 := constantI S_ 1 1#1
  let main_v14 : IVec S_ 1 := (fun x v => Host.reduce IntOp.andi x v reducesTo_S131072x256_S_d0_1 h_S_) main_v13 main_c_4
  let main_v15 : IVec S_ 1 := andi main_v10 main_v14
  let main_v16 : FVec F S128x256 .f32 := Host.absf main_arg3
  fn_part1 (F := F) main_arg4 main_arg7 main_arg8 main_arg9 main_arg10 main_arg11 main_arg12 main_arg13 main_arg14 main_arg15 main_arg16 main_arg17 main_arg18 main_v15 main_v16
-- ==== Kernel.lean ====
abbrev S131072x256 : Shape := ⟨2, ![131072, 256]⟩
abbrev S131072 : Shape := ⟨1, ![131072]⟩
abbrev S128x256 : Shape := ⟨2, ![128, 256]⟩
abbrev S128 : Shape := ⟨1, ![128]⟩
abbrev S4x64 : Shape := ⟨2, ![4, 64]⟩
abbrev S4 : Shape := ⟨1, ![4]⟩
abbrev S1x384 : Shape := ⟨2, ![1, 384]⟩
abbrev S1 : Shape := ⟨1, ![1]⟩
abbrev S128x16 : Shape := ⟨2, ![128, 16]⟩
abbrev S16 : Shape := ⟨1, ![16]⟩
abbrev S1x16 : Shape := ⟨2, ![1, 16]⟩
abbrev S4x32 : Shape := ⟨2, ![4, 32]⟩
abbrev S1x128 : Shape := ⟨2, ![1, 128]⟩
abbrev S128x1 : Shape := ⟨2, ![128, 1]⟩
abbrev S256x128 : Shape := ⟨2, ![256, 128]⟩
abbrev S256x16 : Shape := ⟨2, ![256, 16]⟩
abbrev S256x32 : Shape := ⟨2, ![256, 32]⟩
abbrev S_ : Shape := ⟨0, ![]⟩
abbrev S256x160 : Shape := ⟨2, ![256, 160]⟩
abbrev S768x160 : Shape := ⟨2, ![768, 160]⟩
abbrev S32x1x4096 : Shape := ⟨3, ![32, 1, 4096]⟩
abbrev S16x131072 : Shape := ⟨2, ![16, 131072]⟩
abbrev S2x384 : Shape := ⟨2, ![2, 384]⟩
abbrev S4096x256 : Shape := ⟨2, ![4096, 256]⟩
abbrev S1x1x4096 : Shape := ⟨3, ![1, 1, 4096]⟩
abbrev S16x4096 : Shape := ⟨2, ![16, 4096]⟩
abbrev S4096x768 : Shape := ⟨2, ![4096, 768]⟩
abbrev S4096x160 : Shape := ⟨2, ![4096, 160]⟩
abbrev S4096x128 : Shape := ⟨2, ![4096, 128]⟩
abbrev S4096x16 : Shape := ⟨2, ![4096, 16]⟩
abbrev S1x4096 : Shape := ⟨2, ![1, 4096]⟩
abbrev S4096x384 : Shape := ⟨2, ![4096, 384]⟩
abbrev S2x4096 : Shape := ⟨2, ![2, 4096]⟩
abbrev S8x1x16384 : Shape := ⟨3, ![8, 1, 16384]⟩
abbrev S16x16384 : Shape := ⟨2, ![16, 16384]⟩
abbrev S1x1x16384 : Shape := ⟨3, ![1, 1, 16384]⟩
abbrev S1x256 : Shape := ⟨2, ![1, 256]⟩
abbrev S1x1 : Shape := ⟨2, ![1, 1]⟩
abbrev S1x16384 : Shape := ⟨2, ![1, 16384]⟩
abbrev S131072x1 : Shape := ⟨2, ![131072, 1]⟩

abbrev nBuf : Space → Nat
  | .hbm => 125
  | .vmem => 24
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072, .i32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x256, .f32⟩
  | .hbm, ⟨12, _⟩ => ⟨S128, .f32⟩
  | .hbm, ⟨13, _⟩ => ⟨S128x256, .f32⟩
  | .hbm, ⟨14, _⟩ => ⟨S128, .f32⟩
  | .hbm, ⟨15, _⟩ => ⟨S4x64, .f32⟩
  | .hbm, ⟨16, _⟩ => ⟨S4, .f32⟩
  | .hbm, ⟨17, _⟩ => ⟨S1x384, .f32⟩
  | .hbm, ⟨18, _⟩ => ⟨S1, .f32⟩
  | .hbm, ⟨19, _⟩ => ⟨S128x16, .f32⟩
  | .hbm, ⟨20, _⟩ => ⟨S128x16, .f32⟩
  | .hbm, ⟨21, _⟩ => ⟨S128x16, .f32⟩
  | .hbm, ⟨22, _⟩ => ⟨S16, .f32⟩
  | .hbm, ⟨23, _⟩ => ⟨S1x16, .f32⟩
  | .hbm, ⟨24, _⟩ => ⟨S16, .f32⟩
  | .hbm, ⟨25, _⟩ => ⟨S1x16, .f32⟩
  | .hbm, ⟨26, _⟩ => ⟨S16, .f32⟩
  | .hbm, ⟨27, _⟩ => ⟨S1x16, .f32⟩
  | .hbm, ⟨28, _⟩ => ⟨S4x32, .f32⟩
  | .hbm, ⟨29, _⟩ => ⟨S128, .f32⟩
  | .hbm, ⟨30, _⟩ => ⟨S4x32, .f32⟩
  | .hbm, ⟨31, _⟩ => ⟨S128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S128, .f32⟩
  | .hbm, ⟨38, _⟩ => ⟨S128x1, .f32⟩
  | .hbm, ⟨39, _⟩ => ⟨S128x16, .f32⟩
  | .hbm, ⟨40, _⟩ => ⟨S128x16, .f32⟩
  | .hbm, ⟨41, _⟩ => ⟨S128x1, .f32⟩
  | .hbm, ⟨42, _⟩ => ⟨S128x16, .f32⟩
  | .hbm, ⟨43, _⟩ => ⟨S128x16, .f32⟩
  | .hbm, ⟨44, _⟩ => ⟨S128x1, .f32⟩
  | .hbm, ⟨45, _⟩ => ⟨S128x16, .f32⟩
  | .hbm, ⟨46, _⟩ => ⟨S128x16, .f32⟩
  | .hbm, ⟨47, _⟩ => ⟨S128x1, .f32⟩
  | .hbm, ⟨48, _⟩ => ⟨S128x16, .f32⟩
  | .hbm, ⟨49, _⟩ => ⟨S128x16, .f32⟩
  | .hbm, ⟨50, _⟩ => ⟨S128x1, .f32⟩
  | .hbm, ⟨51, _⟩ => ⟨S128x16, .f32⟩
  | .hbm, ⟨52, _⟩ => ⟨S128x16, .f32⟩
  | .hbm, ⟨53, _⟩ => ⟨S128x16, .f32⟩
  | .hbm, ⟨54, _⟩ => ⟨S128x1, .f32⟩
  | .hbm, ⟨55, _⟩ => ⟨S128x16, .f32⟩
  | .hbm, ⟨56, _⟩ => ⟨S128x16, .f32⟩
  | .hbm, ⟨57, _⟩ => ⟨S128x16, .f32⟩
  | .hbm, ⟨58, _⟩ => ⟨S256x128, .f32⟩
  | .hbm, ⟨59, _⟩ => ⟨S256x16, .f32⟩
  | .hbm, ⟨60, _⟩ => ⟨S256x128, .f32⟩
  | .hbm, ⟨61, _⟩ => ⟨S256x16, .f32⟩
  | .hbm, ⟨62, _⟩ => ⟨S256x128, .f32⟩
  | .hbm, ⟨63, _⟩ => ⟨S256x16, .f32⟩
  | .hbm, ⟨64, _⟩ => ⟨S256x16, .f32⟩
  | .hbm, ⟨65, _⟩ => ⟨S256x32, .f32⟩
  | .hbm, ⟨66, _⟩ => ⟨S256x128, .f32⟩
  | .hbm, ⟨67, _⟩ => ⟨S256x16, .f32⟩
  | .hbm, ⟨68, _⟩ => ⟨S256x128, .f32⟩
  | .hbm, ⟨69, _⟩ => ⟨S256x16, .f32⟩
  | .hbm, ⟨70, _⟩ => ⟨S256x128, .f32⟩
  | .hbm, ⟨71, _⟩ => ⟨S256x16, .f32⟩
  | .hbm, ⟨72, _⟩ => ⟨S256x16, .f32⟩
  | .hbm, ⟨73, _⟩ => ⟨S256x32, .f32⟩
  | .hbm, ⟨74, _⟩ => ⟨S256x128, .f32⟩
  | .hbm, ⟨75, _⟩ => ⟨S256x128, .f32⟩
  | .hbm, ⟨76, _⟩ => ⟨S256x128, .f32⟩
  | .hbm, ⟨77, _⟩ => ⟨S256x128, .f32⟩
  | .hbm, ⟨78, _⟩ => ⟨S_, .f32⟩
  | .hbm, ⟨79, _⟩ => ⟨S256x32, .f32⟩
  | .hbm, ⟨80, _⟩ => ⟨S256x128, .f32⟩
  | .hbm, ⟨81, _⟩ => ⟨S256x128, .f32⟩
  | .hbm, ⟨82, _⟩ => ⟨S256x160, .f32⟩
  | .hbm, ⟨83, _⟩ => ⟨S256x160, .f32⟩
  | .hbm, ⟨84, _⟩ => ⟨S256x160, .f32⟩
  | .hbm, ⟨85, _⟩ => ⟨S768x160, .f32⟩
  | .hbm, ⟨86, _⟩ => ⟨S256x128, .f32⟩
  | .hbm, ⟨87, _⟩ => ⟨S256x128, .f32⟩
  | .hbm, ⟨88, _⟩ => ⟨S256x160, .f32⟩
  | .hbm, ⟨89, _⟩ => ⟨S256x160, .f32⟩
  | .hbm, ⟨90, _⟩ => ⟨S256x160, .f32⟩
  | .hbm, ⟨91, _⟩ => ⟨S768x160, .f32⟩
  | .hbm, ⟨92, _⟩ => ⟨S_, .f32⟩
  | .hbm, ⟨93, _⟩ => ⟨S4, .f32⟩
  | .hbm, ⟨94, _⟩ => ⟨S16, .f32⟩
  | .hbm, ⟨95, _⟩ => ⟨S1x128, .f32⟩
  | .hbm, ⟨96, _⟩ => ⟨S1x16, .f32⟩
  | .hbm, ⟨97, _⟩ => ⟨S1x128, .f32⟩
  | .hbm, ⟨98, _⟩ => ⟨S1x16, .f32⟩
  | .hbm, ⟨99, _⟩ => ⟨S1x16, .f32⟩
  | .hbm, ⟨100, _⟩ => ⟨S1x16, .f32⟩
  | .hbm, ⟨101, _⟩ => ⟨S1x16, .f32⟩
  | .hbm, ⟨102, _⟩ => ⟨S1x128, .f32⟩
  | .hbm, ⟨103, _⟩ => ⟨S1x16, .f32⟩
  | .hbm, ⟨104, _⟩ => ⟨S1x128, .f32⟩
  | .hbm, ⟨105, _⟩ => ⟨S1x16, .f32⟩
  | .hbm, ⟨106, _⟩ => ⟨S1x16, .f32⟩
  | .hbm, ⟨107, _⟩ => ⟨S1x128, .f32⟩
  | .hbm, ⟨108, _⟩ => ⟨S1x16, .f32⟩
  | .hbm, ⟨109, _⟩ => ⟨S1x16, .f32⟩
  | .hbm, ⟨110, _⟩ => ⟨S1x128, .f32⟩
  | .hbm, ⟨111, _⟩ => ⟨S1x16, .f32⟩
  | .hbm, ⟨112, _⟩ => ⟨S1x16, .f32⟩
  | .hbm, ⟨113, _⟩ => ⟨S_, .f32⟩
  | .hbm, ⟨114, _⟩ => ⟨S1x16, .f32⟩
  | .hbm, ⟨115, _⟩ => ⟨S1x16, .f32⟩
  | .hbm, ⟨116, _⟩ => ⟨S1x16, .f32⟩
  | .hbm, ⟨117, _⟩ => ⟨S1x128, .f32⟩
  | .hbm, ⟨118, _⟩ => ⟨S1x128, .f32⟩
  | .hbm, ⟨119, _⟩ => ⟨S131072, .f32⟩
  | .hbm, ⟨120, _⟩ => ⟨S32x1x4096, .f32⟩
  | .hbm, ⟨121, _⟩ => ⟨S16x131072, .f32⟩
  | .hbm, ⟨122, _⟩ => ⟨S2x384, .f32⟩
  | .hbm, ⟨123, _⟩ => ⟨S8x1x16384, .f32⟩
  | .hbm, ⟨124, _⟩ => ⟨S131072x1, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S1x1x4096, .f32⟩
  | .local _ .vmem, ⟨9, _⟩ => ⟨S1x1x4096, .f32⟩
  | .local _ .vmem, ⟨10, _⟩ => ⟨S768x160, .f32⟩
  | .local _ .vmem, ⟨11, _⟩ => ⟨S768x160, .f32⟩
  | .local _ .vmem, ⟨12, _⟩ => ⟨S1x128, .f32⟩
  | .local _ .vmem, ⟨13, _⟩ => ⟨S1x128, .f32⟩
  | .local _ .vmem, ⟨14, _⟩ => ⟨S1x16, .f32⟩
  | .local _ .vmem, ⟨15, _⟩ => ⟨S1x16, .f32⟩
  | .local _ .vmem, ⟨16, _⟩ => ⟨S16x4096, .f32⟩
  | .local _ .vmem, ⟨17, _⟩ => ⟨S16x4096, .f32⟩
  | .local _ .vmem, ⟨18, _⟩ => ⟨S2x384, .f32⟩
  | .local _ .vmem, ⟨19, _⟩ => ⟨S2x384, .f32⟩
  | .local _ .vmem, ⟨20, _⟩ => ⟨S16x16384, .f32⟩
  | .local _ .vmem, ⟨21, _⟩ => ⟨S16x16384, .f32⟩
  | .local _ .vmem, ⟨22, _⟩ => ⟨S1x1x16384, .f32⟩
  | .local _ .vmem, ⟨23, _⟩ => ⟨S1x1x16384, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_cst_1 : Ref sig .tc := ⟨.hbm, 21, rfl⟩
abbrev main_cst_2 : Ref sig .tc := ⟨.hbm, 22, rfl⟩
abbrev main_v0 : Ref sig .tc := ⟨.hbm, 23, rfl⟩
abbrev main_cst_3 : Ref sig .tc := ⟨.hbm, 24, rfl⟩
abbrev main_v1 : Ref sig .tc := ⟨.hbm, 25, rfl⟩
abbrev main_cst_4 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51_0 : Ref sig .tc := ⟨.hbm, 76, rfl⟩
abbrev main_v51_1 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_6 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93_0 : Ref sig .tc := ⟨.hbm, 121, rfl⟩
abbrev main_v93_1 : Ref sig .tc := ⟨.hbm, 122, rfl⟩
abbrev main_v94 : Ref sig .tc := ⟨.hbm, 123, rfl⟩
abbrev main_v95 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg10_0 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc1_sem10_0 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [BitOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def k1_cond1 (i : grid1.Coords) : BitVec 1 :=
  let arg0 : BitVec 32 := BitVec.ofNat 32 (i 0).val
  let c0_i32 : BitVec 32 := 0#32
  let v84 : BitVec 1 := Scalar.cmpi .eq arg0 c0_i32
  let v85 : BitVec 32 := Scalar.extui v84
  let c0_i32_35 : BitVec 32 := 0#32
  let v86 : BitVec 1 := Scalar.cmpi .ne v85 c0_i32_35
  v86

def k1_cond2 (i : grid1.Coords) : BitVec 1 :=
  let arg0 : BitVec 32 := BitVec.ofNat 32 (i 0).val
  let c0_i32_36 : BitVec 32 := 0#32
  let v87 : BitVec 1 := Scalar.cmpi .ne arg0 c0_i32_36
  let v88 : BitVec 32 := Scalar.extui v87
  let c0_i32_37 : BitVec 32 := 0#32
  let v89 : BitVec 1 := Scalar.cmpi .ne v88 c0_i32_37
  v89

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S16x4096 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S2x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S2x384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S16x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F]
-- ==== ReferenceIdeal.lean ====
abbrev S131072x256 : Shape := ⟨2, ![131072, 256]⟩
abbrev S131072 : Shape := ⟨1, ![131072]⟩
abbrev S128x256 : Shape := ⟨2, ![128, 256]⟩
abbrev S128 : Shape := ⟨1, ![128]⟩
abbrev S4x64 : Shape := ⟨2, ![4, 64]⟩
abbrev S4 : Shape := ⟨1, ![4]⟩
abbrev S1x384 : Shape := ⟨2, ![1, 384]⟩
abbrev S1 : Shape := ⟨1, ![1]⟩
abbrev S256x128 : Shape := ⟨2, ![256, 128]⟩
abbrev S131072x128 : Shape := ⟨2, ![131072, 128]⟩
abbrev S1x128 : Shape := ⟨2, ![1, 128]⟩
abbrev S131072x4x32 : Shape := ⟨3, ![131072, 4, 32]⟩
abbrev S_ : Shape := ⟨0, ![]⟩
abbrev S131072x1 : Shape := ⟨2, ![131072, 1]⟩
abbrev S16777216 : Shape := ⟨1, ![16777216]⟩
abbrev S512 : Shape := ⟨1, ![512]⟩
abbrev S16777216x1 : Shape := ⟨2, ![16777216, 1]⟩
abbrev S128x2x2 : Shape := ⟨3, ![128, 2, 2]⟩
abbrev S128x2 : Shape := ⟨2, ![128, 2]⟩
abbrev S128x2x1 : Shape := ⟨3, ![128, 2, 1]⟩
abbrev S128x1x2 : Shape := ⟨3, ![128, 1, 2]⟩
abbrev S128x1x1 : Shape := ⟨3, ![128, 1, 1]⟩
abbrev S131072x4x64 : Shape := ⟨3, ![131072, 4, 64]⟩
abbrev S4x131072 : Shape := ⟨2, ![4, 131072]⟩
abbrev S131072x4 : Shape := ⟨2, ![131072, 4]⟩
abbrev S1x4 : Shape := ⟨2, ![1, 4]⟩
abbrev S131072x4x1 : Shape := ⟨3, ![131072, 4, 1]⟩
abbrev S131072x384 : Shape := ⟨2, ![131072, 384]⟩
abbrev S384x1 : Shape := ⟨2, ![384, 1]⟩
abbrev S1x1 : Shape := ⟨2, ![1, 1]⟩

abbrev nBuf : Space → Nat
  | .hbm => 208
  | .vmem => 0
  | .smem => 0
  | _ => 0

abbrev hbmTy0_0 (i : Nat) : BufTy := match i % 128 with
  | 0 => ⟨S131072x256, .f32⟩
  | 1 => ⟨S131072x256, .f32⟩
  | 2 => ⟨S131072, .i32⟩
  | 3 => ⟨S128x256, .f32⟩
  | 4 => ⟨S128, .f32⟩
  | 5 => ⟨S128x256, .f32⟩
  | 6 => ⟨S128, .f32⟩
  | 7 => ⟨S128x256, .f32⟩
  | 8 => ⟨S128, .f32⟩
  | 9 => ⟨S128x256, .f32⟩
  | 10 => ⟨S128, .f32⟩
  | 11 => ⟨S128x256, .f32⟩
  | 12 => ⟨S128, .f32⟩
  | 13 => ⟨S128x256, .f32⟩
  | 14 => ⟨S128, .f32⟩
  | 15 => ⟨S4x64, .f32⟩
  | 16 => ⟨S4, .f32⟩
  | 17 => ⟨S1x384, .f32⟩
  | 18 => ⟨S1, .f32⟩
  | 19 => ⟨S256x128, .f32⟩
  | 20 => ⟨S131072x128, .f32⟩
  | 21 => ⟨S1x128, .f32⟩
  | 22 => ⟨S131072x128, .f32⟩
  | 23 => ⟨S131072x128, .f32⟩
  | 24 => ⟨S256x128, .f32⟩
  | 25 => ⟨S131072x128, .f32⟩
  | 26 => ⟨S1x128, .f32⟩
  | 27 => ⟨S131072x128, .f32⟩
  | 28 => ⟨S131072x128, .f32⟩
  | 29 => ⟨S256x128, .f32⟩
  | 30 => ⟨S131072x128, .f32⟩
  | 31 => ⟨S1x128, .f32⟩
  | 32 => ⟨S131072x128, .f32⟩
  | 33 => ⟨S131072x128, .f32⟩
  | 34 => ⟨S256x128, .f32⟩
  | 35 => ⟨S131072x128, .f32⟩
  | 36 => ⟨S1x128, .f32⟩
  | 37 => ⟨S131072x128, .f32⟩
  | 38 => ⟨S131072x128, .f32⟩
  | 39 => ⟨S256x128, .f32⟩
  | 40 => ⟨S131072x128, .f32⟩
  | 41 => ⟨S1x128, .f32⟩
  | 42 => ⟨S131072x128, .f32⟩
  | 43 => ⟨S131072x128, .f32⟩
  | 44 => ⟨S256x128, .f32⟩
  | 45 => ⟨S131072x128, .f32⟩
  | 46 => ⟨S1x128, .f32⟩
  | 47 => ⟨S131072x128, .f32⟩
  | 48 => ⟨S131072x128, .f32⟩
  | 49 => ⟨S131072x4x32, .f32⟩
  | 50 => ⟨S131072x4x32, .f32⟩
  | 51 => ⟨S131072x4x32, .f32⟩
  | 52 => ⟨S131072x4x32, .f32⟩
  | 53 => ⟨S_, .f32⟩
  | 54 => ⟨S131072x128, .f32⟩
  | 55 => ⟨S131072x128, .i1⟩
  | 56 => ⟨S131072x128, .i32⟩
  | 57 => ⟨S_, .i32⟩
  | 58 => ⟨S131072x128, .i32⟩
  | 59 => ⟨S131072x128, .i32⟩
  | 60 => ⟨S131072x1, .i32⟩
  | 61 => ⟨S131072x128, .i32⟩
  | 62 => ⟨S131072x128, .i32⟩
  | 63 => ⟨S128, .i32⟩
  | 64 => ⟨S1x128, .i32⟩
  | 65 => ⟨S_, .i32⟩
  | 66 => ⟨S1x128, .i32⟩
  | 67 => ⟨S1x128, .i32⟩
  | 68 => ⟨S131072x128, .i32⟩
  | 69 => ⟨S131072x128, .i32⟩
  | 70 => ⟨S16777216, .i32⟩
  | 71 => ⟨S_, .f32⟩
  | 72 => ⟨S16777216, .f32⟩
  | 73 => ⟨S_, .f32⟩
  | 74 => ⟨S512, .f32⟩
  | 75 => ⟨S16777216x1, .i32⟩
  | 76 => ⟨S512, .f32⟩
  | 77 => ⟨S128x2x2, .f32⟩
  | 78 => ⟨S_, .f32⟩
  | 79 => ⟨S128, .f32⟩
  | 80 => ⟨S_, .f32⟩
  | 81 => ⟨S128x2, .f32⟩
  | 82 => ⟨S_, .f32⟩
  | 83 => ⟨S128x2, .f32⟩
  | 84 => ⟨S128x2x1, .f32⟩
  | 85 => ⟨S128x1x2, .f32⟩
  | 86 => ⟨S128x2x2, .f32⟩
  | 87 => ⟨S128x2x2, .f32⟩
  | 88 => ⟨S128x2x2, .f32⟩
  | 89 => ⟨S128x1x1, .f32⟩
  | 90 => ⟨S_, .f32⟩
  | 91 => ⟨S128x1x1, .f32⟩
  | 92 => ⟨S128x1x1, .f32⟩
  | 93 => ⟨S128x2x2, .f32⟩
  | 94 => ⟨S128x2x2, .f32⟩
  | 95 => ⟨S128x2x2, .f32⟩
  | 96 => ⟨S128x2x2, .f32⟩
  | 97 => ⟨S_, .f32⟩
  | 98 => ⟨S128x2x2, .f32⟩
  | 99 => ⟨S128x2x2, .f32⟩
  | 100 => ⟨S128x2x2, .f32⟩
  | 101 => ⟨S_, .f32⟩
  | 102 => ⟨S128, .f32⟩
  | 103 => ⟨S_, .f32⟩
  | 104 => ⟨S131072x128, .f32⟩
  | 105 => ⟨S131072x128, .i1⟩
  | 106 => ⟨S131072x128, .i32⟩
  | 107 => ⟨S_, .i32⟩
  | 108 => ⟨S131072x128, .i32⟩
  | 109 => ⟨S131072x128, .i32⟩
  | 110 => ⟨S131072x1, .i32⟩
  | 111 => ⟨S131072x128, .i32⟩
  | 112 => ⟨S131072x128, .i32⟩
  | 113 => ⟨S128, .i32⟩
  | 114 => ⟨S1x128, .i32⟩
  | 115 => ⟨S_, .i32⟩
  | 116 => ⟨S1x128, .i32⟩
  | 117 => ⟨S1x128, .i32⟩
  | 118 => ⟨S131072x128, .i32⟩
  | 119 => ⟨S131072x128, .i32⟩
  | 120 => ⟨S16777216, .i32⟩
  | 121 => ⟨S_, .f32⟩
  | 122 => ⟨S16777216, .f32⟩
  | 123 => ⟨S_, .f32⟩
  | 124 => ⟨S512, .f32⟩
  | 125 => ⟨S16777216x1, .i32⟩
  | 126 => ⟨S512, .f32⟩
  | 127 => ⟨S128x2x2, .f32⟩
  | _ => ⟨S131072x256, .f32⟩

abbrev hbmTy0_1 (i : Nat) : BufTy := match i % 128 with
  | 0 => ⟨S_, .f32⟩
  | 1 => ⟨S128, .f32⟩
  | 2 => ⟨S_, .f32⟩
  | 3 => ⟨S128x2, .f32⟩
  | 4 => ⟨S_, .f32⟩
  | 5 => ⟨S128x2, .f32⟩
  | 6 => ⟨S128x2x1, .f32⟩
  | 7 => ⟨S128x1x2, .f32⟩
  | 8 => ⟨S128x2x2, .f32⟩
  | 9 => ⟨S128x2x2, .f32⟩
  | 10 => ⟨S128x2x2, .f32⟩
  | 11 => ⟨S128x1x1, .f32⟩
  | 12 => ⟨S_, .f32⟩
  | 13 => ⟨S128x1x1, .f32⟩
  | 14 => ⟨S128x1x1, .f32⟩
  | 15 => ⟨S128x2x2, .f32⟩
  | 16 => ⟨S128x2x2, .f32⟩
  | 17 => ⟨S128x2x2, .f32⟩
  | 18 => ⟨S128x2x2, .f32⟩
  | 19 => ⟨S_, .f32⟩
  | 20 => ⟨S128x2x2, .f32⟩
  | 21 => ⟨S128x2x2, .f32⟩
  | 22 => ⟨S128x2x2, .f32⟩
  | 23 => ⟨S_, .f32⟩
  | 24 => ⟨S128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S4, .f32⟩
  | 35 => ⟨S_, .f32⟩
  | 36 => ⟨S_, .f32⟩
  | 37 => ⟨S128, .f32⟩
  | 38 => ⟨S128, .f32⟩
  | 39 => ⟨S4, .f32⟩
  | 40 => ⟨S131072x4x64, .f32⟩
  | 41 => ⟨S4x131072, .f32⟩
  | 42 => ⟨S131072x4, .f32⟩
  | 43 => ⟨S1x4, .f32⟩
  | 44 => ⟨S131072x4, .f32⟩
  | 45 => ⟨S131072x4, .f32⟩
  | 46 => ⟨S131072x4, .f32⟩
  | 47 => ⟨S131072x4, .f32⟩
  | 48 => ⟨S_, .f32⟩
  | 49 => ⟨S131072x4, .f32⟩
  | 50 => ⟨S131072x4, .f32⟩
  | 51 => ⟨S_, .f32⟩
  | 52 => ⟨S131072x4, .f32⟩
  | 53 => ⟨S131072x4, .f32⟩
  | 54 => ⟨S1x4, .f32⟩
  | 55 => ⟨S131072x4, .f32⟩
  | 56 => ⟨S131072x4, .f32⟩
  | 57 => ⟨S1x4, .f32⟩
  | 58 => ⟨S131072x4, .f32⟩
  | 59 => ⟨S131072x4, .f32⟩
  | 60 => ⟨S131072x4x1, .f32⟩
  | 61 => ⟨S131072x4x32, .f32⟩
  | 62 => ⟨S131072x4x32, .f32⟩
  | 63 => ⟨S_, .f32⟩
  | 64 => ⟨S131072x4, .f32⟩
  | 65 => ⟨S131072x4, .f32⟩
  | 66 => ⟨S131072x4x1, .f32⟩
  | 67 => ⟨S131072x4x1, .f32⟩
  | 68 => ⟨S131072x4x32, .f32⟩
  | 69 => ⟨S131072x4x32, .f32⟩
  | 70 => ⟨S131072x4x32, .f32⟩
  | 71 => ⟨S131072x4x32, .f32⟩
  | 72 => ⟨S131072x4x32, .f32⟩
  | 73 => ⟨S131072x128, .f32⟩
  | 74 => ⟨S131072x384, .f32⟩
  | 75 => ⟨S384x1, .f32⟩
  | 76 => ⟨S131072x1, .f32⟩
  | 77 => ⟨S1x1, .f32⟩
  | 78 => ⟨S131072x1, .f32⟩
  | 79 => ⟨S131072x1, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_1 : Ref sig .tc := ⟨.hbm, 71, rfl⟩
abbrev main_v49 : Ref sig .tc := ⟨.hbm, 72, rfl⟩
abbrev main_cst_2 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_3 : Ref sig .tc := ⟨.hbm, 78, rfl⟩
abbrev main_v54 : Ref sig .tc := ⟨.hbm, 79, rfl⟩
abbrev main_cst_4 : Ref sig .tc := ⟨.hbm, 80, rfl⟩
abbrev main_v55 : Ref sig .tc := ⟨.hbm, 81, rfl⟩
abbrev main_cst_5 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_6 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_7 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_8 : Ref sig .tc := ⟨.hbm, 101, rfl⟩
abbrev main_v72 : Ref sig .tc := ⟨.hbm, 102, rfl⟩
abbrev main_cst_9 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_10 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_11 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_cst_13 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_14 : Ref sig .tc := ⟨.hbm, 128, rfl⟩
abbrev main_v93 : Ref sig .tc := ⟨.hbm, 129, rfl⟩
abbrev main_cst_15 : Ref sig .tc := ⟨.hbm, 130, rfl⟩
abbrev main_v94 : Ref sig .tc := ⟨.hbm, 131, rfl⟩
abbrev main_cst_16 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_17 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_18 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_19 : Ref sig .tc := ⟨.hbm, 151, rfl⟩
abbrev main_v111 : Ref sig .tc := ⟨.hbm, 152, rfl⟩
abbrev main_cst_20 : Ref sig .tc := ⟨.hbm, 153, rfl⟩
abbrev main_v112 : Ref sig .tc := ⟨.hbm, 154, rfl⟩
abbrev main_cst_21 : Ref sig .tc := ⟨.hbm, 155, rfl⟩
abbrev main_v113 : Ref sig .tc := ⟨.hbm, 156, rfl⟩
abbrev main_v114 : Ref sig .tc := ⟨.hbm, 157, rfl⟩
abbrev main_cst_22 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_23 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_24 : Ref sig .tc := ⟨.hbm, 176, rfl⟩
abbrev main_v131 : Ref sig .tc := ⟨.hbm, 177, rfl⟩
abbrev main_v132 : Ref sig .tc := ⟨.hbm, 178, rfl⟩
abbrev main_cst_25 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_26 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩

abbrev nD : Nat := 1
abbrev τ : Topo := Topo.v7x

variable {F : FTy → Type} [FloatOps F]
-- ==== Proof.KernelIdeal.Split.lean ====
/- The region that splits the two value weights: what one run of its body leaves, at any entry contents `V`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- deciding membership in a rectangle of these extents recurses once per coordinate of its long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, for any proof data over these arrays that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, for any proof data over these arrays that leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x128 := Rect.unit (s := S256x128) ![0, 0] S256x128.size inb_S256x128_S256x128_0_0

/-! ## What the body leaves in each output window's buffer -/

/-- What the body leaves in window 2's buffer, from the input blocks. -/
def out0_2 (x0 : Vec F S256x128 .f32) (x1 : Vec F S256x128 .f32) : Vec F S256x128 .f32 :=
  View.canon [⟨r0_0, k0_pay1 (View.ld x0 r0_0)⟩]

/-- Its one store covers the buffer. -/
theorem cover0_2 (p0 : Vec F S256x128 .f32) (y : S256x128.Idx) :
    ∃ pc ∈ ([⟨r0_0, p0⟩] : List (View.Piece (Elt F) S256x128 .f32)), y ∈ pc.1.set :=
  View.cover_of_tiled [⟨r0_0, p0⟩] S256x128.size (by rfl) y

/-- What the body leaves in window 3's buffer, from the input blocks. -/
def out0_3 (x0 : Vec F S256x128 .f32) (x1 : Vec F S256x128 .f32) : Vec F S256x128 .f32 :=
  View.canon [⟨r0_0, k0_pay2 (View.ld x1 r0_0)⟩]

/-- Its one store covers the buffer. -/
theorem cover0_3 (p0 : Vec F S256x128 .f32) (y : S256x128.Idx) :
    ∃ pc ∈ ([⟨r0_0, p0⟩] : List (View.Piece (Elt F) S256x128 .f32)), y ∈ pc.1.set :=
  View.cover_of_tiled [⟨r0_0, p0⟩] S256x128.size (by rfl) y

/-! ## The body's triple -/

set_option maxHeartbeats 1000000 in
/-- The body on whole buffers runs to the continuation, the inputs' buffers as they were and each output's at its stated contents. -/
theorem sound_kernel0 (c : Dev nD) (E : Set ℕ) (arg0 : Memref sig .tc .vmem S256x128 .f32) (harg0 : arg0.IsWhole) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole)
    (x0 : Vec F S256x128 .f32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1)) -∗ K ⟨⟩))
      ⊢ wp frame (wpE (defs₀ (F := F)) Variants.none c none) E (cc0_han_hi arg0 harg0 arg1 harg1 arg2 harg2 arg3 harg3) K := by
  simp only [cc0_han_hi_eq_skeleton]; unfold cc0_han_hi_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of region 0: the arrays as the region finds them, and what each window's buffer holds after the body. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point takes what it is called with to what it returns. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at a point is the body on that point's buffers. -/
theorem defs₀_row0 (t : Fin cfg0.N) :
    defs₀ (F := F) .tc cfg0.body (cfg0.bodyArgs t (cfg0.slots t)) = bodyAt0 t := by
  unfold defs₀; rw [Defs.onTc_tc]

/-- The obligation on the body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.PassOne.lean ====
/- The first pass: what its body leaves in each block of the coefficients, and the running sums it keeps in one buffer
   across the points, at any entry contents `V`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- deciding membership in a rectangle of these extents recurses once per coordinate of its long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, for any proof data over these arrays that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, for any proof data over these arrays that leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, for any proof data over these arrays that leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's buffer holds its block at every point, for any proof data over these arrays that leaves it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's buffer holds its block at every point, for any proof data over these arrays that leaves it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's buffer holds its block at every point, for any proof data over these arrays that leaves it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's buffer holds its block at every point, for any proof data over these arrays that leaves it in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's buffer holds its block at every point, for any proof data over these arrays that leaves it in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's buffer holds its block at every point, for any proof data over these arrays that leaves it in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4096x256 := Rect.unit (s := S4096x256) ![0, 0] S4096x256.size inb_S4096x256_S4096x256_0_0
abbrev r1_1 : Rect S768x160 := Rect.unit (s := S768x160) ![0, 0] S768x160.size inb_S768x160_S768x160_0_0
abbrev r1_2 : Rect S1x128 := Rect.unit (s := S1x128) ![0, 0] S1x128.size inb_S1x128_S1x128_0_0
abbrev r1_3 : Rect S1x16 := Rect.unit (s := S1x16) ![0, 0] S1x16.size inb_S1x16_S1x16_0_0
abbrev r1_4 : Rect S16x4096 := Rect.unit (s := S16x4096) ![0, 0] S16x4096.size inb_S16x4096_S16x4096_0_0
abbrev r1_5 : Rect S1x1x4096 := Rect.unit (s := S1x1x4096) ![0, 0, 0] S1x1x4096.size inb_S1x1x4096_S1x1x4096_0_0_0
abbrev r1_6 : Rect S2x384 := Rect.unit (s := S2x384) ![0, 0] S2x384.size inb_S2x384_S2x384_0_0

/-! ## What the body leaves in each output window's buffer -/

/-- What the body leaves in window 9's buffer, from the input blocks. -/
def out1_9 (x0 : Vec F S4096x256 .f32) (x1 : Vec F S4096x256 .f32) (x2 : Vec F S1x1x4096 .f32) (x3 : Vec F S768x160 .f32) (x4 : Vec F S768x160 .f32) (x5 : Vec F S1x128 .f32) (x6 : Vec F S1x128 .f32) (x7 : Vec F S1x16 .f32) (x8 : Vec F S1x16 .f32) : Vec F S16x4096 .f32 :=
  View.canon [⟨r1_4, k1_pay10 (k1_pay7 (View.ld x0 r1_0) (View.ld x1 r1_0) (View.ld x3 r1_1) (View.ld x4 r1_1) (View.ld x7 r1_3)) (k1_pay8 (View.ld x0 r1_0) (View.ld x1 r1_0) (View.ld x3 r1_1) (View.ld x4 r1_1)) (k1_pay9 (View.ld x8 r1_3))⟩]

/-- Its one store covers the buffer. -/
theorem cover1_9 (p0 : Vec F S16x4096 .f32) (y : S16x4096.Idx) :
    ∃ pc ∈ ([⟨r1_4, p0⟩] : List (View.Piece (Elt F) S16x4096 .f32)), y ∈ pc.1.set :=
  View.cover_of_tiled [⟨r1_4, p0⟩] S16x4096.size (by rfl) y

/-- What the body leaves in window 10's buffer at the first point: the block's own sums. -/
def out1_first (x0 : Vec F S4096x256 .f32) (x1 : Vec F S4096x256 .f32) (x2 : Vec F S1x1x4096 .f32) (x3 : Vec F S768x160 .f32) (x4 : Vec F S768x160 .f32) (x5 : Vec F S1x128 .f32) (x6 : Vec F S1x128 .f32) (x7 : Vec F S1x16 .f32) (x8 : Vec F S1x16 .f32) : Vec F S2x384 .f32 :=
  View.canon [⟨r1_6, k1_pay1 (k1_pay11 (k1_pay5 (View.ld x0 r1_0) (View.ld x3 r1_1) (View.ld x5 r1_2)) (k1_pay6 (View.ld x1 r1_0) (View.ld x4 r1_1) (View.ld x6 r1_2))) (k1_pay12 (View.ld x2 r1_5))⟩]

/-- What the body leaves in window 10's buffer at a later point: the block's sums added to what was there. -/
def out1_later (x0 : Vec F S4096x256 .f32) (x1 : Vec F S4096x256 .f32) (x2 : Vec F S1x1x4096 .f32) (x3 : Vec F S768x160 .f32) (x4 : Vec F S768x160 .f32) (x5 : Vec F S1x128 .f32) (x6 : Vec F S1x128 .f32) (x7 : Vec F S1x16 .f32) (x8 : Vec F S1x16 .f32) (xo : Vec F S2x384 .f32) : Vec F S2x384 .f32 :=
  View.canon [⟨r1_6, k1_pay2 (k1_pay11 (k1_pay5 (View.ld x0 r1_0) (View.ld x3 r1_1) (View.ld x5 r1_2)) (k1_pay6 (View.ld x1 r1_0) (View.ld x4 r1_1) (View.ld x6 r1_2))) (k1_pay12 (View.ld x2 r1_5)) (View.ld xo r1_6)⟩]

/-- Its one store covers the buffer. -/
theorem cover1_10 (p0 : Vec F S2x384 .f32) (y : S2x384.Idx) :
    ∃ pc ∈ ([⟨r1_6, p0⟩] : List (View.Piece (Elt F) S2x384 .f32)), y ∈ pc.1.set :=
  View.cover_of_tiled [⟨r1_6, p0⟩] S2x384.size (by rfl) y

/-! ## The body's two conditions -/

/-- The first conditional is taken at the first point only. -/
theorem cond1_first : ∀ t : Fin cfg1.N, k1_cond1 (grid1.coords t) = 1#1 ↔ t.val = 0 :=
  (fun t => by
    have ht : t.val < 32 := Nat.lt_of_lt_of_eq t.isLt N_1
    have e0 : (grid1.coords t 0).val = t.val / 1 % 32 := Pipeline.Grid.coords_val t 0 (by decide) rfl
    simp only [k1_cond1, e0]
    word_cmp
   : ∀ t : Fin grid1.N, k1_cond1 (grid1.coords t) = 1#1 ↔ t.val = 0)

/-- The second conditional is taken at every later point. -/
theorem cond1_later : ∀ t : Fin cfg1.N, k1_cond2 (grid1.coords t) = 1#1 ↔ 1 ≤ t.val :=
  (fun t => by
    have ht : t.val < 32 := Nat.lt_of_lt_of_eq t.isLt N_1
    have e0 : (grid1.coords t 0).val = t.val / 1 % 32 := Pipeline.Grid.coords_val t 0 (by decide) rfl
    simp only [k1_cond2, e0]
    word_cmp
   : ∀ t : Fin grid1.N, k1_cond2 (grid1.coords t) = 1#1 ↔ 1 ≤ t.val)

/-- One of the two is taken at every point, so window 10 is stored into at every point. -/
theorem live1_10 (t : Fin cfg1.N) : cfg1.idle 10 (grid1.coords t) = false := by
  by_cases h : t.val = 0
  · show (!(k1_cond1 (grid1.coords t) == 1#1) && !(k1_cond2 (grid1.coords t) == 1#1)) = false
    rw [(cond1_first t).mpr h]; rfl
  · show (!(k1_cond1 (grid1.coords t) == 1#1) && !(k1_cond2 (grid1.coords t) == 1#1)) = false
    rw [(cond1_later t).mpr (by omega)]; exact Bool.and_false _

/-! ## The body's triple -/

set_option maxHeartbeats 2000000 in
/-- The body on whole buffers runs to the continuation, the inputs' buffers as they were and each output's at its
    stated contents; window 10's depends on which of the two conditionals is taken. -/
theorem sound_kernel1 (c : Dev nD) (E : Set ℕ) (i : grid1.Coords) (arg1 : Memref sig .tc .vmem S4096x256 .f32) (harg1 : arg1.IsWhole) (arg2 : Memref sig .tc .vmem S4096x256 .f32) (harg2 : arg2.IsWhole) (arg3 : Memref sig .tc .vmem S1x1x4096 .f32) (harg3 : arg3.IsWhole) (arg4 : Memref sig .tc .vmem S768x160 .f32) (harg4 : arg4.IsWhole) (arg5 : Memref sig .tc .vmem S768x160 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S16x4096 .f32) (harg10 : arg10.IsWhole) (arg11 : Memref sig .tc .vmem S2x384 .f32) (harg11 : arg11.IsWhole)
    (x0 : Vec F S4096x256 .f32) (x1 : Vec F S4096x256 .f32) (x2 : Vec F S1x1x4096 .f32) (x3 : Vec F S768x160 .f32) (x4 : Vec F S768x160 .f32) (x5 : Vec F S1x128 .f32) (x6 : Vec F S1x128 .f32) (x7 : Vec F S1x16 .f32) (x8 : Vec F S1x16 .f32) (xo y : Vec F S2x384 .f32)
    (hy : (k1_cond1 i = 1#1 ∧ ¬k1_cond2 i = 1#1 ∧ y = out1_first x0 x1 x2 x3 x4 x5 x6 x7 x8)
      ∨ (¬k1_cond1 i = 1#1 ∧ k1_cond2 i = 1#1 ∧ y = out1_later x0 x1 x2 x3 x4 x5 x6 x7 x8 xo)) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare y) -∗ K ⟨⟩))
      ⊢ wp frame (wpE (defs₀ (F := F)) Variants.none c none) E (cc1_han_pass1 i arg1 harg1 arg2 harg2 arg3 harg3 arg4 harg4 arg5 harg5 arg6 harg6 arg7 harg7 arg8 harg8 arg9 harg9 arg10 harg10 arg11 harg11) K := by
  simp only [cc1_han_pass1_eq_skeleton]; unfold cc1_han_pass1_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  subst hf0 hf1 hf2 hf3 hf4 hf5 hf6 hf7 hf8 hf10
  rcases hy with ⟨h1, h2, rfl⟩ | ⟨h1, h2, rfl⟩
  ·
    sl_exec (disch := first | sl_exact h1 | sl_exact h2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      exact View.read_writes_eq_canon _ _ _ (cover1_9 _)
    iexists _; isplitr
    swap; · iexact H10
    ipureintro
    exact View.read_writes_eq_canon _ _ _ (cover1_10 _)
  ·
    sl_exec (disch := first | sl_exact h1 | sl_exact h2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      exact View.read_writes_eq_canon _ _ _ (cover1_9 _)
    iexists _; isplitr
    swap; · iexact H10
    ipureintro
    exact View.read_writes_eq_canon _ _ _ (cover1_10 _)

/-! ## The sums after each point, and the proof data -/

/-- What window 10's buffer holds after point `n`: the sums of the blocks up to `n`, added one block at a time. -/
def stats1 (c : Dev nD) : (n : ℕ) → n < cfg1.N → Vec F S2x384 .f32
  | 0, h => out1_first (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)
  | n + 1, h => out1_later (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (stats1 c n (Nat.lt_of_succ_lt h))

/-- The proof data of region 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => stats1 V c t.val t.isLt
  Φ _ := Pipeline.ΦA spec1 c
  q _ := fullShare
  owed _ := 0

/-- The proof data's arrays are the contents at the region's entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = stats1 V c t.val t.isLt := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- Window 10's buffer is written back after the last point only: before any later point it still holds something
    the body stored. -/
def fresh1 : ℕ → Bool
  | 0 => true
  | n + 1 => n == 31

theorem fresh1_step : ∀ t : Fin cfg1.N,
    fresh1 (t.val + 1) = ((cfg1.win 10).flush t || (cfg1.idle 10 (cfg1.grid.coords t) && fresh1 t.val)) := by decide +kernel

theorem fresh1_eq (t : Fin cfg1.N) : cfg1.fresh 10 t.val = fresh1 t.val :=
  Pipeline.Cfg.fresh_tab cfg1 10 fresh1 rfl fresh1_step t.val (Nat.le_of_lt t.isLt)

/-- Before a later point, window 10's buffer holds the sums of the blocks so far. -/
theorem before1_10 (c : Dev nD) (n : ℕ) (h : n + 1 < cfg1.N) (d) :
    (dat1 V c).before 10 ⟨n + 1, h⟩ d = stats1 V c n (Nat.lt_of_succ_lt h) := by
  have hN : n + 1 < 32 := lt_of_lt_of_eq h N_1
  rw [Dat.before_out_traj _ 10 rfl (fun _ _ => rfl)
      (fun t _ hi _ => absurd ((live1_10 t).symm.trans hi) Bool.false_ne_true) (n + 1) ⟨n + 1, h⟩ rfl d,
    if_neg (by
      rw [fresh1_eq ⟨n + 1, h⟩]
      show ¬((n == 31) = true)
      rw [beq_iff_eq]; omega)]
  dsimp only [dat1]
  rfl

/-! ## The body obligation, at a generic point -/

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What the body returns at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ (dat1 V c).leavesExact 10 t)

/-- The sums after a point, from what window 10's buffer held before it. -/
theorem step1 (c : Dev nD) (t : Fin cfg1.N) (d) :
    (k1_cond1 (grid1.coords t) = 1#1 ∧ ¬k1_cond2 (grid1.coords t) = 1#1 ∧ stats1 V c t.val t.isLt = out1_first (iblk1 V c 0 t) (iblk1 V c 1 t) (iblk1 V c 2 t) (iblk1 V c 3 t) (iblk1 V c 4 t) (iblk1 V c 5 t) (iblk1 V c 6 t) (iblk1 V c 7 t) (iblk1 V c 8 t))
      ∨ (¬k1_cond1 (grid1.coords t) = 1#1 ∧ k1_cond2 (grid1.coords t) = 1#1
        ∧ stats1 V c t.val t.isLt = out1_later (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 10 t d)) := by
  rcases t with ⟨n, h⟩
  cases n with
  | zero =>
    exact .inl ⟨(cond1_first _).mpr rfl, fun h2 => absurd ((cond1_later _).mp h2) (Nat.not_succ_le_zero 0), rfl⟩
  | succ n =>
    refine .inr ⟨fun h1 => absurd ((cond1_first _).mp h1) (Nat.succ_ne_zero n), (cond1_later _).mpr (Nat.le_add_left 1 n), ?_⟩
    rw [before1_10 V c n h d]
    rfl

/-- The body at any point takes what it is called with to what it returns. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9,
    show (dat1 V c).leavesExact 10 t = owns (c : Thread nD τ) (st1_10 t) fullShare ((dat1 V c).after 10 t) from by
      unfold Dat.leavesExact; rw [live1_10 t], after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) ((dat1 V c).before 10 t d10) (stats1 V c t.val t.isLt) (step1 V c t d10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a point is the body on that point's buffers. -/
theorem defs₀_row1 (t : Fin cfg1.N) :
    defs₀ (F := F) .tc cfg1.body (cfg1.bodyArgs t (cfg1.slots t)) = bodyAt1 t := by
  unfold defs₀; rw [Defs.onTc_tc]

/-- The obligation on the body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdeal.PassTwo.lean ====
/- The second pass: what its body leaves in the result's block at each point, at any entry contents `V`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- deciding membership in a rectangle of these extents recurses once per coordinate of its long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, for any proof data over these arrays that leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's buffer holds its block at every point, for any proof data over these arrays that leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2x384 := Rect.unit (s := S2x384) ![0, 0] S2x384.size inb_S2x384_S2x384_0_0
abbrev r2_1 : Rect S16x16384 := Rect.unit (s := S16x16384) ![0, 0] S16x16384.size inb_S16x16384_S16x16384_0_0
abbrev r2_2 : Rect S1x1x16384 := Rect.unit (s := S1x1x16384) ![0, 0, 0] S1x1x16384.size inb_S1x1x16384_S1x1x16384_0_0_0

/-! ## What the body leaves in each output window's buffer -/

/-- What the body leaves in window 2's buffer, from the input blocks. -/
def out2_2 (x0 : Vec F S2x384 .f32) (x1 : Vec F S16x16384 .f32) : Vec F S1x1x16384 .f32 :=
  View.canon [⟨r2_2, k2_pay1 (k2_pay10 (k2_pay7 (View.ld x0 r2_0)) (k2_pay8 (View.ld x0 r2_0)) (k2_pay9 (View.ld x0 r2_0)) (Scalar.ofBits .f32 0x358637BD#32)) (iota .tc S256x16 32 [0] iota_S256x16_d0_w32) (iota .tc S256x16 32 [1] iota_S256x16_d1_w32) (k2_pay11 (F := F)) (k2_pay12 (F := F)) k2_pay13 k2_pay14 (View.ld x1 r2_1)⟩]

/-- Its one store covers the buffer. -/
theorem cover2_2 (p0 : Vec F S1x1x16384 .f32) (y : S1x1x16384.Idx) :
    ∃ pc ∈ ([⟨r2_2, p0⟩] : List (View.Piece (Elt F) S1x1x16384 .f32)), y ∈ pc.1.set :=
  View.cover_of_tiled [⟨r2_2, p0⟩] S1x1x16384.size (by rfl) y

/-! ## The body's triple -/

set_option maxHeartbeats 1000000 in
/-- The body on whole buffers runs to the continuation, the inputs' buffers as they were and each output's at its stated contents. -/
theorem sound_kernel2 (c : Dev nD) (E : Set ℕ) (i : grid2.Coords) (arg1 : Memref sig .tc .vmem S2x384 .f32) (harg1 : arg1.IsWhole) (arg2 : Memref sig .tc .vmem S16x16384 .f32) (harg2 : arg2.IsWhole) (arg3 : Memref sig .tc .vmem S1x1x16384 .f32) (harg3 : arg3.IsWhole)
    (x0 : Vec F S2x384 .f32) (x1 : Vec F S16x16384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_han_pass2 i arg1 harg1 arg2 harg2 arg3 harg3) K := by
  simp only [cc2_han_pass2_eq_skeleton]; unfold cc2_han_pass2_skel
  simp only [k2_part1_eq_skeleton, k2_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of region 2: the arrays as the region finds them, and what each window's buffer holds after the body. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the contents at the region's entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point takes what it is called with to what it returns. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at a point is the body on that point's buffers. -/
theorem defs₀_row2 (t : Fin cfg2.N) :
    defs₀ (F := F) .tc cfg2.body (cfg2.bodyArgs t (cfg2.slots t)) = bodyAt2 t := by
  unfold defs₀; rw [Defs.onTc_tc]

/-- The obligation on the body, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.KernelIdeal.Run.lean ====
/- The whole run: the contents of the buffers at each boundary between host operations and regions, from the launch
   to the return, and the frame: every argument ends as launched and every semaphore counter is at zero. -/
module

public import proofs.«01_k».proof.Proof.KernelIdeal.Split
public import proofs.«01_k».proof.Proof.KernelIdeal.PassOne
public import proofs.«01_k».proof.Proof.KernelIdeal.PassTwo
public import Idealize.ShloMosaic.Lib.Pipeline.RegionsLoop
public import Idealize.ShloMosaic.Lib.Pipeline.FrameSuffix

@[expose] public section

-- deciding membership in a rectangle of these extents recurses once per coordinate of its long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_cst_1, main_cst_2, main_v0, main_cst_3, main_v1, main_cst_4, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_cst_5, main_v52, main_v53, main_v54, main_v55, main_v56, main_v57, main_v58, main_v59, main_v60, main_v61, main_v62, main_v63, main_v64, main_cst_6, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v95]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)
theorem W6_main_arg12 (c : Dev nD) : W6 m ρ c (Proc.devRef .tc main_arg12) = m ((c : Thread nD τ).loc main_arg12) :=
  W6_args m ρ c main_arg12 (by decide)
theorem W6_main_arg13 (c : Dev nD) : W6 m ρ c (Proc.devRef .tc main_arg13) = m ((c : Thread nD τ).loc main_arg13) :=
  W6_args m ρ c main_arg13 (by decide)
theorem W6_main_arg14 (c : Dev nD) : W6 m ρ c (Proc.devRef .tc main_arg14) = m ((c : Thread nD τ).loc main_arg14) :=
  W6_args m ρ c main_arg14 (by decide)
theorem W6_main_arg15 (c : Dev nD) : W6 m ρ c (Proc.devRef .tc main_arg15) = m ((c : Thread nD τ).loc main_arg15) :=
  W6_args m ρ c main_arg15 (by decide)
theorem W6_main_arg16 (c : Dev nD) : W6 m ρ c (Proc.devRef .tc main_arg16) = m ((c : Thread nD τ).loc main_arg16) :=
  W6_args m ρ c main_arg16 (by decide)
theorem W6_main_arg17 (c : Dev nD) : W6 m ρ c (Proc.devRef .tc main_arg17) = m ((c : Thread nD τ).loc main_arg17) :=
  W6_args m ρ c main_arg17 (by decide)
theorem W6_main_arg18 (c : Dev nD) : W6 m ρ c (Proc.devRef .tc main_arg18) = m ((c : Thread nD τ).loc main_arg18) :=
  W6_args m ρ c main_arg18 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The 6 segments of the program in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one
set_option backward.isDefEq.respectTransparency.types false in
/-- The run, at any float instance: from any memory with every counter at zero, every weakly fair execution ends, nothing
    faulting, with every buffer of the program at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: every execution ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c),
       (h.1 c _ (mem_uc main_arg8 (by decide))).trans (W6_main_arg8 m ρ c),
       (h.1 c _ (mem_uc main_arg9 (by decide))).trans (W6_main_arg9 m ρ c),
       (h.1 c _ (mem_uc main_arg10 (by decide))).trans (W6_main_arg10 m ρ c),
       (h.1 c _ (mem_uc main_arg11 (by decide))).trans (W6_main_arg11 m ρ c),
       (h.1 c _ (mem_uc main_arg12 (by decide))).trans (W6_main_arg12 m ρ c),
       (h.1 c _ (mem_uc main_arg13 (by decide))).trans (W6_main_arg13 m ρ c),
       (h.1 c _ (mem_uc main_arg14 (by decide))).trans (W6_main_arg14 m ρ c),
       (h.1 c _ (mem_uc main_arg15 (by decide))).trans (W6_main_arg15 m ρ c),
       (h.1 c _ (mem_uc main_arg16 (by decide))).trans (W6_main_arg16 m ρ c),
       (h.1 c _ (mem_uc main_arg17 (by decide))).trans (W6_main_arg17 m ρ c),
       (h.1 c _ (mem_uc main_arg18 (by decide))).trans (W6_main_arg18 m ρ c)⟩, h.2⟩) (run m ρ)

end Cert.KernelIdeal.Run

end
-- ==== Proof.ReferenceIdeal.Result.lean ====
module

public import proofs.«01_k».proof.Proof.Gen.ReferenceIdeal.Run
public import Idealize.ShloMosaic.PureOps.Ideal
public import proofs.«01_k».proof.Proof.Gen.ReferenceIdeal.Read

@[expose] public section

noncomputable section

namespace Cert.ReferenceIdeal.Run

open Cert.ReferenceIdeal Cert.ReferenceIdeal.Gen Idealize.ShloMosaic Idealize.ShloMosaic.TcCoe Idealize.SL.Sem

/-- The reference's frame: it is host operations alone, so every execution ends with the arguments as launched, and it
    declares no semaphore, so every counter is at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => (h c).2, sem_eq_zero_of_no_sems (by decide) r.2⟩)
    (Cert.ReferenceIdeal.Value.run m ρ)

end Cert.ReferenceIdeal.Run

end
-- ==== Proof.Fusion.Model.lean ====
/-
  The fusion over the real numbers: what one row's result is, and the same row computed lane by lane from folded weights.

  The first half is the problem's mathematics: five linear layers, a chi-squared weight per feature, a score per head, and the gated sum that
  the output layer reads. The second half is the arrangement with sixteen lanes a row: the output weights are folded into the value layers, so
  a lane holds one head's share of the result. `laneOut_eq_out` says the two are one number.
-/
module

public import Mathlib.Analysis.SpecialFunctions.Exp
public import Mathlib.Algebra.BigOperators.Fin
public import Mathlib.Tactic.Ring
public import Mathlib.Tactic.FieldSimp
public import Mathlib.Tactic.Positivity

@[expose] public section

namespace Fusion

open scoped BigOperators

/-- The arrays of the problem as real numbers; a label is a truth value. The text key layer has no part in the result. -/
structure Data where
  xt : Fin 131072 → Fin 256 → ℝ
  xi : Fin 131072 → Fin 256 → ℝ
  lab : Fin 131072 → Bool
  wtq : Fin 128 → Fin 256 → ℝ
  btq : Fin 128 → ℝ
  wtv : Fin 128 → Fin 256 → ℝ
  btv : Fin 128 → ℝ
  wiq : Fin 128 → Fin 256 → ℝ
  biq : Fin 128 → ℝ
  wik : Fin 128 → Fin 256 → ℝ
  bik : Fin 128 → ℝ
  wiv : Fin 128 → Fin 256 → ℝ
  biv : Fin 128 → ℝ
  aw : Fin 4 → Fin 64 → ℝ
  ab : Fin 4 → ℝ
  wo : Fin 384 → ℝ
  bo : ℝ

/-- The threshold of the gate: the float32 nearest 0.7. -/
noncomputable def thr : ℝ := 11744051 / 16777216

/-- The small number that keeps denominators from zero: the float32 nearest 10⁻⁶. -/
noncomputable def eps : ℝ := 8796093 / 8796093022208

theorem eps_pos : 0 < eps := by unfold eps; norm_num

/-- One entry of a linear layer. -/
def lin (x : Fin 131072 → Fin 256 → ℝ) (w : Fin 128 → Fin 256 → ℝ) (b : Fin 128 → ℝ) (r : Fin 131072) (f : Fin 128) : ℝ :=
  ∑ k, x r k * w f k + b f

/-- The head a feature belongs to. -/
def hd (f : Fin 128) : Fin 4 := ⟨f.val / 32, by omega⟩

/-- Feature `d` of head `h`. -/
def feat (h : Fin 4) (d : Fin 32) : Fin 128 := ⟨32 * h.val + d.val, by omega⟩

/-! ## The chi-squared weights -/

/-- One where the value is above the threshold, else zero. -/
noncomputable def gate (v : ℝ) : ℝ := if thr < v then 1 else 0

/-- A label as a number. -/
def labR (b : Bool) : ℝ := if b then 1 else 0

/-- One cell of the chi-squared statistic: the squared difference of count and expectation over the expectation. -/
noncomputable def cell (c e : ℝ) : ℝ := (c - e) * (c - e) / (e + eps)

/-- The number of rows. -/
def rows : ℝ := 131072

/-- The statistic of a two by two table from the number of gated rows, of gated labelled rows and of labelled rows. As the problem writes it, a
cell whose gate and label differ is held against the expectation of the cell across the diagonal. -/
noncomputable def chiOf (n1 n11 nl : ℝ) : ℝ :=
  cell (rows - n1 - nl + n11) ((rows - nl) * (rows - n1) / (rows + eps)) + cell (nl - n11) ((rows - nl) * n1 / (rows + eps))
    + cell (n1 - n11) (nl * (rows - n1) / (rows + eps)) + cell n11 (nl * n1 / (rows + eps))

/-- How many rows a layer's feature is gated in. -/
noncomputable def gated (v : Fin 131072 → Fin 128 → ℝ) (f : Fin 128) : ℝ := ∑ r, gate (v r f)

/-- How many labelled rows a layer's feature is gated in. -/
noncomputable def gatedLab (lab : Fin 131072 → Bool) (v : Fin 131072 → Fin 128 → ℝ) (f : Fin 128) : ℝ := ∑ r, labR (lab r) * gate (v r f)

/-- How many rows are labelled. -/
def labelled (lab : Fin 131072 → Bool) : ℝ := ∑ r, labR (lab r)

/-- The statistic of a layer's feature. -/
noncomputable def chi (lab : Fin 131072 → Bool) (v : Fin 131072 → Fin 128 → ℝ) (f : Fin 128) : ℝ :=
  chiOf (gated v f) (gatedLab lab v f) (labelled lab)

/-- The greatest of 128 numbers. -/
noncomputable def top (g : Fin 128 → ℝ) : ℝ := Finset.univ.sup' ⟨0, Finset.mem_univ _⟩ g

theorem gate_nonneg (v : ℝ) : 0 ≤ gate v := by unfold gate; split <;> norm_num
theorem gate_le_one (v : ℝ) : gate v ≤ 1 := by unfold gate; split <;> norm_num
theorem labR_nonneg (b : Bool) : 0 ≤ labR b := by cases b <;> simp [labR]
theorem labR_le_one (b : Bool) : labR b ≤ 1 := by cases b <;> simp [labR]

theorem sum_rows_le (g : Fin 131072 → ℝ) (h : ∀ r, g r ≤ 1) : ∑ r, g r ≤ rows := by
  refine (Finset.sum_le_sum fun r _ => h r).trans ?_
  simp [rows]

theorem gated_nonneg (v : Fin 131072 → Fin 128 → ℝ) (f : Fin 128) : 0 ≤ gated v f := Finset.sum_nonneg fun _ _ => gate_nonneg _
theorem gated_le (v : Fin 131072 → Fin 128 → ℝ) (f : Fin 128) : gated v f ≤ rows := sum_rows_le _ fun _ => gate_le_one _
theorem labelled_nonneg (lab : Fin 131072 → Bool) : 0 ≤ labelled lab := Finset.sum_nonneg fun _ _ => labR_nonneg _
theorem labelled_le (lab : Fin 131072 → Bool) : labelled lab ≤ rows := sum_rows_le _ fun _ => labR_le_one _

theorem rows_eps_pos : 0 < rows + eps := by unfold rows; linarith [eps_pos]

/-- An expectation, a product of two counts over the total, is not negative. -/
theorem expect_nonneg {a b : ℝ} (ha : 0 ≤ a) (hb : 0 ≤ b) : 0 ≤ a * b / (rows + eps) :=
  div_nonneg (mul_nonneg ha hb) rows_eps_pos.le

theorem expect_eps_pos {a b : ℝ} (ha : 0 ≤ a) (hb : 0 ≤ b) : 0 < a * b / (rows + eps) + eps :=
  add_pos_of_nonneg_of_pos (expect_nonneg ha hb) eps_pos

theorem cell_nonneg {c e : ℝ} (he : 0 ≤ e) : 0 ≤ cell c e :=
  div_nonneg (mul_self_nonneg _) (add_nonneg he eps_pos.le)

theorem chi_nonneg (lab : Fin 131072 → Bool) (v : Fin 131072 → Fin 128 → ℝ) (f : Fin 128) : 0 ≤ chi lab v f := by
  have h1 := gated_nonneg v f
  have h2 := sub_nonneg.2 (gated_le v f)
  have h3 := labelled_nonneg lab
  have h4 := sub_nonneg.2 (labelled_le lab)
  unfold chi chiOf
  exact add_nonneg (add_nonneg (add_nonneg (cell_nonneg (expect_nonneg h4 h2)) (cell_nonneg (expect_nonneg h4 h1)))
    (cell_nonneg (expect_nonneg h3 h2))) (cell_nonneg (expect_nonneg h3 h1))

theorem top_nonneg {g : Fin 128 → ℝ} (h : ∀ f, 0 ≤ g f) : 0 ≤ top g :=
  (h 0).trans (Finset.le_sup' g (Finset.mem_univ 0))

namespace Data

variable (D : Data)

noncomputable def tQ (r : Fin 131072) (f : Fin 128) : ℝ := lin D.xt D.wtq D.btq r f
noncomputable def tV (r : Fin 131072) (f : Fin 128) : ℝ := lin D.xt D.wtv D.btv r f
noncomputable def iQ (r : Fin 131072) (f : Fin 128) : ℝ := lin D.xi D.wiq D.biq r f
noncomputable def iK (r : Fin 131072) (f : Fin 128) : ℝ := lin D.xi D.wik D.bik r f
noncomputable def iV (r : Fin 131072) (f : Fin 128) : ℝ := lin D.xi D.wiv D.biv r f

/-- The text and the image value layers' statistics. -/
noncomputable def chiT (f : Fin 128) : ℝ := chi D.lab D.tV f
noncomputable def chiI (f : Fin 128) : ℝ := chi D.lab D.iV f

/-- The greatest statistic of both. -/
noncomputable def peak : ℝ := max (top D.chiT) (top D.chiI)

theorem peak_eps_pos : 0 < D.peak + eps :=
  add_pos_of_nonneg_of_pos (le_max_of_le_left (top_nonneg fun _ => chi_nonneg _ _ _)) eps_pos

/-- The head weights: a statistic over the greatest one. -/
noncomputable def alphaT (f : Fin 128) : ℝ := D.chiT f / (D.peak + eps)
noncomputable def alphaI (f : Fin 128) : ℝ := D.chiI f / (D.peak + eps)

/-- Head `h` read as a feature number: the weight of a head is the weight of the feature with its number. -/
def headFeat (h : Fin 4) : Fin 128 := ⟨h.val, by omega⟩

/-- The logit of a head's score: the text queries and the image keys of the head against the attention weights. -/
noncomputable def logit (r : Fin 131072) (h : Fin 4) : ℝ :=
  ∑ d : Fin 32, D.tQ r (feat h d) * D.aw h ⟨d.val, by omega⟩ + ∑ d : Fin 32, D.iK r (feat h d) * D.aw h ⟨32 + d.val, by omega⟩ + D.ab h

noncomputable def score (r : Fin 131072) (h : Fin 4) : ℝ := 1 / (1 + Real.exp (-D.logit r h))

/-- The gated sum of the two values. -/
noncomputable def fused (r : Fin 131072) (f : Fin 128) : ℝ :=
  D.tV r f * (D.score r (hd f) * D.alphaT (headFeat (hd f)))
    + (1 - D.score r (hd f) * D.alphaT (headFeat (hd f))) * (D.iV r f * (D.score r (hd f) * D.alphaI (headFeat (hd f))))

/-- A row's result. -/
noncomputable def out (r : Fin 131072) : ℝ :=
  ∑ f : Fin 128, D.fused r f * D.wo ⟨f.val, by omega⟩ + ∑ f : Fin 128, D.tQ r f * D.wo ⟨128 + f.val, by omega⟩
    + ∑ f : Fin 128, D.iQ r f * D.wo ⟨256 + f.val, by omega⟩ + D.bo

/-! ## The sixteen lanes -/

/-- Lanes 0 to 11 in three groups of four, one lane a head. -/
def rep3 (f : Fin 128) (q : Fin 16) : ℝ := if q.val < 12 ∧ f.val / 32 = q.val % 4 then 1 else 0
/-- The first group alone. -/
def grp0 (f : Fin 128) (q : Fin 16) : ℝ := if q.val < 4 ∧ f.val / 32 = q.val % 4 then 1 else 0
/-- The second and the third group. -/
def grp12 (f : Fin 128) (q : Fin 16) : ℝ := if (4 ≤ q.val ∧ q.val < 12) ∧ f.val / 32 = q.val % 4 then 1 else 0
/-- Lane 12. -/
def lane12 (q : Fin 16) : ℝ := if q.val = 12 then 1 else 0

def mlogQ (f : Fin 128) (q : Fin 16) : ℝ := D.aw (hd f) ⟨f.val % 32, by omega⟩ * rep3 f q
def mlogK (f : Fin 128) (q : Fin 16) : ℝ := D.aw (hd f) ⟨32 + f.val % 32, by omega⟩ * rep3 f q
def maT (f : Fin 128) (q : Fin 16) : ℝ := D.wo ⟨f.val, by omega⟩ * grp0 f q
def maI (f : Fin 128) (q : Fin 16) : ℝ := D.wo ⟨f.val, by omega⟩ * grp12 f q
def mpT (f : Fin 128) (q : Fin 16) : ℝ := D.wo ⟨128 + f.val, by omega⟩ * lane12 q
def mpI (f : Fin 128) (q : Fin 16) : ℝ := D.wo ⟨256 + f.val, by omega⟩ * lane12 q

/-- The folded weights: a query or key layer through the attention weights, a value layer through the output weights. -/
def foldLT (k : Fin 256) (q : Fin 16) : ℝ := ∑ f, D.wtq f k * D.mlogQ f q
def foldLI (k : Fin 256) (q : Fin 16) : ℝ := ∑ f, D.wik f k * D.mlogK f q
def foldAT (k : Fin 256) (q : Fin 16) : ℝ := ∑ f, D.wtv f k * D.maT f q + ∑ f, D.wtq f k * D.mpT f q
def foldAI (k : Fin 256) (q : Fin 16) : ℝ := ∑ f, D.wiv f k * D.maI f q + ∑ f, D.wiq f k * D.mpI f q

/-- The attention bias three times, then zero. -/
def abRep (q : Fin 16) : ℝ := if q.val < 12 then D.ab ⟨q.val % 4, by omega⟩ else 0

/-- The folded biases. -/
def foldBL (q : Fin 16) : ℝ := ∑ f, D.btq f * D.mlogQ f q + ∑ f, D.bik f * D.mlogK f q + D.abRep q
def foldBA (q : Fin 16) : ℝ :=
  ∑ f, D.btv f * D.maT f q + ∑ f, D.btq f * D.mpT f q + ∑ f, D.biv f * D.maI f q + ∑ f, D.biq f * D.mpI f q + D.bo * lane12 q

def laneLogit (r : Fin 131072) (q : Fin 16) : ℝ :=
  ∑ k, D.xt r k * D.foldLT k q + ∑ k, D.xi r k * D.foldLI k q + D.foldBL q

def laneVal (r : Fin 131072) (q : Fin 16) : ℝ :=
  ∑ k, D.xt r k * D.foldAT k q + ∑ k, D.xi r k * D.foldAI k q + D.foldBA q

noncomputable def laneScore (r : Fin 131072) (q : Fin 16) : ℝ := 1 / (1 + Real.exp (-D.laneLogit r q))

/-- The score, its square from lane 8 on, one from lane 12 on. -/
noncomputable def laneGate (r : Fin 131072) (q : Fin 16) : ℝ :=
  if 12 ≤ q.val then 1 else if 8 ≤ q.val then D.laneScore r q * D.laneScore r q else D.laneScore r q

/-- What lane `q` of row `r` holds before the weights are known. -/
noncomputable def lane (r : Fin 131072) (q : Fin 16) : ℝ := D.laneGate r q * D.laneVal r q

/-- A lane's weight. -/
noncomputable def laneWeight (q : Fin 16) : ℝ :=
  if q.val < 4 then D.alphaT ⟨q.val % 4, by omega⟩
  else if q.val < 8 then D.alphaI ⟨q.val % 4, by omega⟩
  else if q.val < 12 then -(D.alphaT ⟨q.val % 4, by omega⟩ * D.alphaI ⟨q.val % 4, by omega⟩)
  else if q.val = 12 then 1 else 0

/-- A row's result from its lanes. -/
noncomputable def laneOut (r : Fin 131072) : ℝ := ∑ q, D.laneWeight q * D.lane r q

/-! ## The two are equal -/

/-- A layer folded through a table is the layer's row read through the table. -/
theorem fold_swap (x : Fin 256 → ℝ) (w : Fin 128 → Fin 256 → ℝ) (b : Fin 128 → ℝ) (m : Fin 128 → ℝ) :
    ∑ k, x k * ∑ f, w f k * m f + ∑ f, b f * m f = ∑ f, (∑ k, x k * w f k + b f) * m f := by
  have h : ∑ k, x k * ∑ f, w f k * m f = ∑ f, (∑ k, x k * w f k) * m f := by
    simp only [Finset.mul_sum, Finset.sum_mul]
    rw [Finset.sum_comm]
    exact Finset.sum_congr rfl fun f _ => Finset.sum_congr rfl fun k _ => by ring
  rw [h, ← Finset.sum_add_distrib]
  exact Finset.sum_congr rfl fun f _ => by ring

theorem laneLogit_eq (r : Fin 131072) (q : Fin 16) :
    D.laneLogit r q = ∑ f, D.tQ r f * D.mlogQ f q + ∑ f, D.iK r f * D.mlogK f q + D.abRep q := by
  have h1 := fold_swap (D.xt r) D.wtq D.btq fun f => D.mlogQ f q
  have h2 := fold_swap (D.xi r) D.wik D.bik fun f => D.mlogK f q
  unfold laneLogit foldBL foldLT foldLI tQ iK lin
  rw [← h1, ← h2]; ring

theorem laneVal_eq (r : Fin 131072) (q : Fin 16) :
    D.laneVal r q = ∑ f, D.tV r f * D.maT f q + ∑ f, D.tQ r f * D.mpT f q + ∑ f, D.iV r f * D.maI f q + ∑ f, D.iQ r f * D.mpI f q
      + D.bo * lane12 q := by
  have h1 := fold_swap (D.xt r) D.wtv D.btv fun f => D.maT f q
  have h2 := fold_swap (D.xt r) D.wtq D.btq fun f => D.mpT f q
  have h3 := fold_swap (D.xi r) D.wiv D.biv fun f => D.maI f q
  have h4 := fold_swap (D.xi r) D.wiq D.biq fun f => D.mpI f q
  unfold laneVal foldBA foldAT foldAI tV tQ iV iQ lin
  rw [← h1, ← h2, ← h3, ← h4]
  simp only [mul_add, Finset.sum_add_distrib]; ring

/-- A sum over the features of one head. -/
theorem sum_head (F : Fin 128 → ℝ) (h : Fin 4) : ∑ f, (if f.val / 32 = h.val then F f else 0) = ∑ d, F (feat h d) := by
  rw [← Finset.sum_filter]
  symm
  refine Finset.sum_bij (fun d _ => feat h d) (fun d _ => ?_) (fun a _ b _ e => ?_) (fun f hf => ?_) (fun _ _ => rfl)
  · simp only [Finset.mem_filter, Finset.mem_univ, true_and, feat]; omega
  · have := congrArg Fin.val e; simp only [feat] at this; exact Fin.ext (by omega)
  · simp only [Finset.mem_filter, Finset.mem_univ, true_and] at hf
    exact ⟨⟨f.val % 32, by omega⟩, Finset.mem_univ _, Fin.ext (by simp only [feat]; omega)⟩

theorem hd_feat (h : Fin 4) (d : Fin 32) : hd (feat h d) = h := Fin.ext (by simp only [hd, feat]; omega)

/-- In the first twelve lanes the logit is the head's. -/
theorem laneLogit_head (r : Fin 131072) (q : Fin 16) (hq : q.val < 12) (h : Fin 4) (hh : q.val % 4 = h.val) :
    D.laneLogit r q = D.logit r h := by
  have aux : ∀ (X : Fin 128 → ℝ) (A : Fin 128 → ℝ), ∑ f, X f * (A f * rep3 f q) = ∑ d, X (feat h d) * A (feat h d) := by
    intro X A
    rw [← sum_head (fun f => X f * A f) h]
    refine Finset.sum_congr rfl fun f _ => ?_
    unfold rep3
    by_cases e : f.val / 32 = h.val
    · rw [if_pos e, if_pos ⟨hq, by omega⟩]; ring
    · rw [if_neg e, if_neg (by omega)]; ring
  rw [laneLogit_eq]
  unfold mlogQ mlogK logit
  rw [aux (D.tQ r) fun f => D.aw (hd f) ⟨f.val % 32, by omega⟩, aux (D.iK r) fun f => D.aw (hd f) ⟨32 + f.val % 32, by omega⟩]
  have e1 : D.abRep q = D.ab h := by unfold abRep; rw [if_pos hq]; exact congrArg D.ab (Fin.ext hh)
  rw [e1]
  simp only [hd_feat]
  have e2 : ∀ d : Fin 32, (feat h d).val % 32 = d.val := fun d => by simp only [feat]; omega
  simp only [e2]

theorem sum16 (F : Fin 16 → ℝ) :
    ∑ q, F q = ∑ h : Fin 4, F ⟨h.val, by omega⟩ + ∑ h : Fin 4, F ⟨4 + h.val, by omega⟩ + ∑ h : Fin 4, F ⟨8 + h.val, by omega⟩
      + (F 12 + F 13 + F 14 + F 15) := by
  rw [Fin.sum_univ_add (a := 12) (b := 4) F, Fin.sum_univ_add (a := 8) (b := 4) fun i => F (Fin.castAdd 4 i),
    Fin.sum_univ_add (a := 4) (b := 4) fun i => F (Fin.castAdd 4 (Fin.castAdd 4 i)), Fin.sum_univ_four fun i => F (Fin.natAdd 12 i)]
  rfl

/-- The head's sum with a factor that depends on the head only. -/
theorem sum_heads (G : Fin 4 → ℝ) (F : Fin 128 → ℝ) :
    ∑ h : Fin 4, G h * ∑ f, F f * (if f.val / 32 = h.val then 1 else 0) = ∑ f, G (hd f) * F f := by
  simp only [Finset.mul_sum]
  rw [Finset.sum_comm]
  refine Finset.sum_congr rfl fun f _ => ?_
  rw [Finset.sum_eq_single (hd f)]
  · rw [if_pos (show f.val / 32 = (hd f).val from rfl)]; ring
  · intro h _ hne
    rw [if_neg fun e => hne (Fin.ext e.symm)]; ring
  · intro h; exact absurd (Finset.mem_univ _) h

theorem laneScore_head (r : Fin 131072) (q : Fin 16) (hq : q.val < 12) (h : Fin 4) (hh : q.val % 4 = h.val) :
    D.laneScore r q = D.score r h := by
  unfold laneScore score; rw [D.laneLogit_head r q hq h hh]

/-- A value of the first group: the head's text values against the output weights. -/
theorem laneVal_text (r : Fin 131072) (h : Fin 4) :
    D.laneVal r ⟨h.val, by omega⟩ = ∑ f, D.tV r f * D.wo ⟨f.val, by omega⟩ * (if f.val / 32 = h.val then 1 else 0) := by
  have e0 : ∀ f, grp0 f (⟨h.val, by omega⟩ : Fin 16) = if f.val / 32 = h.val then 1 else 0 := fun f => by
    unfold grp0; exact if_congr (by show (h.val < 4 ∧ f.val / 32 = h.val % 4) ↔ _; omega) rfl rfl
  have e1 : ∀ f, grp12 f (⟨h.val, by omega⟩ : Fin 16) = 0 := fun f => if_neg (by show ¬ ((4 ≤ h.val ∧ h.val < 12) ∧ _); omega)
  have e2 : lane12 (⟨h.val, by omega⟩ : Fin 16) = 0 := if_neg (by show h.val ≠ 12; omega)
  rw [laneVal_eq]
  unfold maT maI mpT mpI
  simp only [e0, e1, e2, mul_zero, Finset.sum_const_zero, add_zero, mul_assoc]

/-- A value of the second or the third group: the head's image values against the output weights. -/
theorem laneVal_image (r : Fin 131072) (h : Fin 4) (q : Fin 16) (h4 : 4 ≤ q.val) (h12 : q.val < 12) (hq : q.val % 4 = h.val) :
    D.laneVal r q = ∑ f, D.iV r f * D.wo ⟨f.val, by omega⟩ * (if f.val / 32 = h.val then 1 else 0) := by
  have e0 : ∀ f, grp12 f q = if f.val / 32 = h.val then 1 else 0 := fun f => by
    unfold grp12; exact if_congr (by omega) rfl rfl
  have e1 : ∀ f, grp0 f q = 0 := fun f => if_neg (by omega)
  have e2 : lane12 q = 0 := if_neg (by omega)
  rw [laneVal_eq]
  unfold maT maI mpT mpI
  simp only [e0, e1, e2, mul_zero, Finset.sum_const_zero, add_zero, zero_add, mul_assoc]

/-- Lane 12: the two queries against their output weights, and the output bias. -/
theorem laneVal_query (r : Fin 131072) :
    D.laneVal r 12 = ∑ f : Fin 128, D.tQ r f * D.wo ⟨128 + f.val, by omega⟩ + ∑ f : Fin 128, D.iQ r f * D.wo ⟨256 + f.val, by omega⟩ + D.bo := by
  have e0 : ∀ f, grp12 f 12 = 0 := fun f => if_neg (by show ¬ ((4 ≤ 12 ∧ 12 < 12) ∧ _); omega)
  have e1 : ∀ f, grp0 f 12 = 0 := fun f => if_neg (by show ¬ (12 < 4 ∧ _); omega)
  have e2 : lane12 12 = 1 := if_pos rfl
  rw [laneVal_eq]
  unfold maT maI mpT mpI
  simp only [e0, e1, e2, mul_zero, Finset.sum_const_zero, add_zero, zero_add, mul_one]

/-- The lanes' result is the problem's. -/
theorem laneOut_eq_out (r : Fin 131072) : D.laneOut r = D.out r := by
  have g0 : ∀ h : Fin 4, D.laneWeight ⟨h.val, by omega⟩ * D.lane r ⟨h.val, by omega⟩
      = (D.alphaT (headFeat h) * D.score r h) * ∑ f, D.tV r f * D.wo ⟨f.val, by omega⟩ * (if f.val / 32 = h.val then 1 else 0) := fun h => by
    have w : D.laneWeight ⟨h.val, by omega⟩ = D.alphaT (headFeat h) := by
      unfold laneWeight; rw [if_pos h.isLt]; exact congrArg D.alphaT (Fin.ext (by simp only [headFeat]; omega))
    have g : D.laneGate r ⟨h.val, by omega⟩ = D.score r h := by
      unfold laneGate; rw [if_neg (by simp only; omega), if_neg (by simp only; omega)]
      exact D.laneScore_head r _ (by simp only; omega) h (by simp only; omega)
    unfold lane; rw [w, g, laneVal_text]; ring
  have g1 : ∀ h : Fin 4, D.laneWeight ⟨4 + h.val, by omega⟩ * D.lane r ⟨4 + h.val, by omega⟩
      = (D.alphaI (headFeat h) * D.score r h) * ∑ f, D.iV r f * D.wo ⟨f.val, by omega⟩ * (if f.val / 32 = h.val then 1 else 0) := fun h => by
    have w : D.laneWeight ⟨4 + h.val, by omega⟩ = D.alphaI (headFeat h) := by
      unfold laneWeight; rw [if_neg (by simp only; omega), if_pos (by simp only; omega)]
      exact congrArg D.alphaI (Fin.ext (by simp only [headFeat]; omega))
    have g : D.laneGate r ⟨4 + h.val, by omega⟩ = D.score r h := by
      unfold laneGate; rw [if_neg (by simp only; omega), if_neg (by simp only; omega)]
      exact D.laneScore_head r _ (by simp only; omega) h (by simp only; omega)
    unfold lane; rw [w, g, D.laneVal_image r h _ (by simp only; omega) (by simp only; omega) (by simp only; omega)]; ring
  have g2 : ∀ h : Fin 4, D.laneWeight ⟨8 + h.val, by omega⟩ * D.lane r ⟨8 + h.val, by omega⟩
      = (-(D.alphaT (headFeat h) * D.alphaI (headFeat h)) * (D.score r h * D.score r h))
        * ∑ f, D.iV r f * D.wo ⟨f.val, by omega⟩ * (if f.val / 32 = h.val then 1 else 0) := fun h => by
    have w : D.laneWeight ⟨8 + h.val, by omega⟩ = -(D.alphaT (headFeat h) * D.alphaI (headFeat h)) := by
      have e : (⟨(8 + h.val) % 4, by omega⟩ : Fin 128) = headFeat h := Fin.ext (by simp only [headFeat]; omega)
      unfold laneWeight; rw [if_neg (by simp only; omega), if_neg (by simp only; omega), if_pos (by simp only; omega)]
      simp only [e]
    have g : D.laneGate r ⟨8 + h.val, by omega⟩ = D.score r h * D.score r h := by
      unfold laneGate; rw [if_neg (by simp only; omega), if_pos (by simp only; omega),
        D.laneScore_head r _ (by simp only; omega) h (by simp only; omega)]
    unfold lane; rw [w, g, D.laneVal_image r h _ (by simp only; omega) (by simp only; omega) (by simp only; omega)]; ring
  have g3 : D.laneWeight 12 * D.lane r 12 = D.laneVal r 12 := by
    have w : D.laneWeight 12 = 1 := by simp [laneWeight]
    have g : D.laneGate r 12 = 1 := by simp [laneGate]
    unfold lane; rw [w, g]; ring
  have w13 : D.laneWeight 13 = 0 := by simp [laneWeight]
  have w14 : D.laneWeight 14 = 0 := by simp [laneWeight]
  have w15 : D.laneWeight 15 = 0 := by simp [laneWeight]
  unfold laneOut
  rw [sum16, g3, w13, w14, w15, laneVal_query]
  simp only [g0, g1, g2]
  rw [sum_heads, sum_heads fun h => D.alphaI (headFeat h) * D.score r h,
    sum_heads fun h => -(D.alphaT (headFeat h) * D.alphaI (headFeat h)) * (D.score r h * D.score r h)]
  have e : ∑ f : Fin 128, D.fused r f * D.wo ⟨f.val, by omega⟩
      = ∑ f : Fin 128, D.alphaT (headFeat (hd f)) * D.score r (hd f) * (D.tV r f * D.wo ⟨f.val, by omega⟩)
        + ∑ f : Fin 128, D.alphaI (headFeat (hd f)) * D.score r (hd f) * (D.iV r f * D.wo ⟨f.val, by omega⟩)
        + ∑ f : Fin 128, -(D.alphaT (headFeat (hd f)) * D.alphaI (headFeat (hd f))) * (D.score r (hd f) * D.score r (hd f))
            * (D.iV r f * D.wo ⟨f.val, by omega⟩) := by
    rw [← Finset.sum_add_distrib, ← Finset.sum_add_distrib]
    refine Finset.sum_congr rfl fun f _ => ?_
    unfold fused; ring
  unfold out
  rw [e]; ring

end Data

end Fusion
-- ==== Proof.Fusion.Cast.lean ====
/-
  From extended real arithmetic to real arithmetic: where every operand is a real number and every divisor is not zero, an operation's result
  is the real operation's.
-/
module

public import Idealize.ShloMosaic.PureOps.Ideal
public import Idealize.ShloMosaic.Lib.IdealHost
public import proofs.«01_k».proof.Proof.Fusion.Model

@[expose] public section

open Idealize.ShloMosaic
open scoped BigOperators

namespace Fusion

/-- A sum of real numbers is a real number. -/
theorem coe_sum {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

/-- A quotient of real numbers whose divisor is not zero. -/
theorem coe_div (a : ℝ) {b : ℝ} (hb : b ≠ 0) : Ideal.div (a : EReal) (b : EReal) = ((a / b : ℝ) : EReal) := by
  rw [Ideal.div_coe hb, ← EReal.coe_mul]; congr 1; ring

/-- The fold of the maximum over real numbers from the least element is their greatest. -/
theorem fold_max (g : Fin 128 → ℝ) : (Finset.univ : Finset (Fin 128)).fold max (⊥ : EReal) (fun f => ((g f : ℝ) : EReal)) = ((top g : ℝ) : EReal) := by
  have h1 : (Finset.univ : Finset (Fin 128)).fold max (⊥ : EReal) (fun f => ((g f : ℝ) : EReal)) = Finset.univ.sup fun f => ((g f : ℝ) : EReal) := rfl
  rw [h1]
  refine le_antisymm (Finset.sup_le fun f _ => EReal.coe_le_coe_iff.2 (Finset.le_sup' g (Finset.mem_univ f))) ?_
  obtain ⟨f, _, hf⟩ := Finset.exists_mem_eq_sup' ⟨0, Finset.mem_univ _⟩ g
  unfold top
  rw [hf]
  exact Finset.le_sup (f := fun f => ((g f : ℝ) : EReal)) (Finset.mem_univ f)

/-- The same over two lists of 128, one after the other. -/
theorem fold_max_pair (c : Fin 256 → EReal) (g h : Fin 128 → ℝ) (hg : ∀ f : Fin 128, c ⟨f.val, by omega⟩ = ((g f : ℝ) : EReal))
    (hh : ∀ f : Fin 128, c ⟨128 + f.val, by omega⟩ = ((h f : ℝ) : EReal)) :
    (Finset.univ : Finset (Fin 256)).fold max (⊥ : EReal) c = ((max (top g) (top h) : ℝ) : EReal) := by
  have h1 : (Finset.univ : Finset (Fin 256)).fold max (⊥ : EReal) c = Finset.univ.sup c := rfl
  have hc : ((max (top g) (top h) : ℝ) : EReal) = max ((top g : ℝ) : EReal) ((top h : ℝ) : EReal) :=
    (EReal.coe_strictMono.monotone.map_max)
  rw [h1, hc]
  refine le_antisymm (Finset.sup_le fun k _ => ?_) (max_le ?_ ?_)
  · by_cases hk : k.val < 128
    · refine le_max_of_le_left ?_
      rw [show k = ⟨(⟨k.val, hk⟩ : Fin 128).val, by omega⟩ from rfl, hg]
      exact EReal.coe_le_coe_iff.2 (Finset.le_sup' g (Finset.mem_univ _))
    · refine le_max_of_le_right ?_
      rw [show k = ⟨128 + (⟨k.val - 128, by omega⟩ : Fin 128).val, by simp only; omega⟩ from Fin.ext (by simp only; omega), hh]
      exact EReal.coe_le_coe_iff.2 (Finset.le_sup' h (Finset.mem_univ _))
  · obtain ⟨f, _, hf⟩ := Finset.exists_mem_eq_sup' ⟨0, Finset.mem_univ _⟩ g
    unfold top
    rw [hf, ← hg f]
    exact Finset.le_sup (Finset.mem_univ _)
  · obtain ⟨f, _, hf⟩ := Finset.exists_mem_eq_sup' ⟨0, Finset.mem_univ _⟩ h
    unfold top
    rw [hf, ← hh f]
    exact Finset.le_sup (Finset.mem_univ _)

/-! ## The literals -/

theorem ofBits_thr : Ideal.ofBits .f32 0x3F333333#32 = ((thr : ℝ) : EReal) := by
  unfold thr; simp [Ideal.ofBits, Ideal.ieee, -EReal.coe_mul]; norm_num

theorem ofBits_eps : Ideal.ofBits .f32 0x358637BD#32 = ((eps : ℝ) : EReal) := by
  unfold eps; simp [Ideal.ofBits, Ideal.ieee, -EReal.coe_mul]; norm_num

theorem ofBits_rows : Ideal.ofBits .f32 0x48000000#32 = ((rows : ℝ) : EReal) := by
  unfold rows; simp [Ideal.ofBits, Ideal.ieee, -EReal.coe_mul]; norm_num

theorem ofBits_zero : Ideal.ofBits .f32 0x00000000#32 = ((0 : ℝ) : EReal) := by simp [Ideal.ofBits, Ideal.ieee]

theorem ofBits_one : Ideal.ofBits .f32 0x3F800000#32 = ((1 : ℝ) : EReal) := Ideal.ofBits_one_f32.trans EReal.coe_one.symm

theorem ofBits_bot : Ideal.ofBits .f32 0xFF800000#32 = (⊥ : EReal) := by simp [Ideal.ofBits, Ideal.ieee]

/-! ## The pieces both programs write -/

/-- The score of a logit. -/
theorem coe_sigmoid (x : ℝ) : Ideal.div ((1 : ℝ) : EReal) (((1 : ℝ) : EReal) + Ideal.exp ((-x : ℝ) : EReal)) = ((1 / (1 + Real.exp (-x)) : ℝ) : EReal) := by
  rw [Ideal.exp_coe, ← EReal.coe_add, coe_div _ (by positivity)]

/-- One cell of the statistic. -/
theorem coe_cell (c : ℝ) {e : ℝ} (he : 0 ≤ e) :
    Ideal.div (((c : ℝ) - (e : ℝ) : EReal) * ((c : ℝ) - (e : ℝ) : EReal)) ((e : ℝ) + (eps : ℝ) : EReal) = ((cell c e : ℝ) : EReal) := by
  rw [← EReal.coe_sub, ← EReal.coe_mul, ← EReal.coe_add, coe_div _ (add_pos_of_nonneg_of_pos he eps_pos).ne']
  rfl

/-- The comparison with the threshold is one where the gate is. -/
theorem cmp_thr (v : ℝ) : Ideal.cmp .ogt ((v : ℝ) : EReal) ((thr : ℝ) : EReal) = if thr < v then 1#1 else 0#1 := by
  show BitVec.ofBool (decide (((thr : ℝ) : EReal) < ((v : ℝ) : EReal))) = _
  by_cases h : thr < v
  · rw [if_pos h, decide_eq_true (EReal.coe_lt_coe_iff.2 h)]; rfl
  · rw [if_neg h, decide_eq_false fun e => h (EReal.coe_lt_coe_iff.1 e)]; rfl

end Fusion
-- ==== Proof.Fusion.Holds.lean ====
/-
  When the arrays of a launch hold the real numbers of a `Data`.
-/
module

public import proofs.«01_k».proof.Proof.Fusion.Cast
public import Idealize.ShloMosaic.Lib.ValueIdx

@[expose] public section

open Idealize.ShloMosaic Idealize.ShloMosaic.ValueIdx

namespace Fusion

/-- A matrix and a vector of extended real numbers, and a vector of words. -/
abbrev Mat (m n : ℕ) := (⟨2, ![m, n]⟩ : Shape).Idx → EReal
abbrev Vect (n : ℕ) := (⟨1, ![n]⟩ : Shape).Idx → EReal
abbrev Words (n : ℕ) := (⟨1, ![n]⟩ : Shape).Idx → BitVec 32

/-- A layer's weights and bias hold real ones. -/
structure HoldsLayer (wr : Fin 128 → Fin 256 → ℝ) (br : Fin 128 → ℝ) (w : Mat 128 256) (b : Vect 128) : Prop where
  w : ∀ f k, w (ix2 f k) = ((wr f k : ℝ) : EReal)
  b : ∀ f, b (ix1 f) = ((br f : ℝ) : EReal)

/-- The arrays hold `D`. -/
structure Holds (D : Data) (a0 a1 : Mat 131072 256) (a2 : Words 131072) (a3 : Mat 128 256) (a4 : Vect 128) (a7 : Mat 128 256) (a8 : Vect 128)
    (a9 : Mat 128 256) (a10 : Vect 128) (a11 : Mat 128 256) (a12 : Vect 128) (a13 : Mat 128 256) (a14 : Vect 128) (a15 : Mat 4 64) (a16 : Vect 4)
    (a17 : Mat 1 384) (a18 : Vect 1) : Prop where
  xt : ∀ r k, a0 (ix2 r k) = ((D.xt r k : ℝ) : EReal)
  xi : ∀ r k, a1 (ix2 r k) = ((D.xi r k : ℝ) : EReal)
  lab : ∀ r, a2 (ix1 r) = (BitVec.ofBool (D.lab r)).setWidth 32
  tq : HoldsLayer D.wtq D.btq a3 a4
  tv : HoldsLayer D.wtv D.btv a7 a8
  iq : HoldsLayer D.wiq D.biq a9 a10
  ik : HoldsLayer D.wik D.bik a11 a12
  iv : HoldsLayer D.wiv D.biv a13 a14
  aw : ∀ h k, a15 (ix2 h k) = ((D.aw h k : ℝ) : EReal)
  ab : ∀ h, a16 (ix1 h) = ((D.ab h : ℝ) : EReal)
  wo : ∀ k, a17 (ix2 (0 : Fin 1) k) = ((D.wo k : ℝ) : EReal)
  bo : a18 (ix1 (0 : Fin 1)) = ((D.bo : ℝ) : EReal)

end Fusion
-- ==== Proof.Fusion.Product.lean ====
/-
  Matrix products of arrays that hold real numbers, and three arrays side by side.
-/
module

public import proofs.«01_k».proof.Proof.Fusion.Holds
public import Idealize.ShloMosaic.Lib.MatmulPlain
public import Idealize.ShloMosaic.Lib.StackMember
public import Idealize.ShloMosaic.Lib.Pipeline.Value

@[expose] public section

open Idealize.ShloMosaic Idealize.ShloMosaic.ValueIdx
open scoped BigOperators

namespace Fusion

/-- A product into a zero accumulator, read at an index. -/
theorem matmul_coe {M K N : ℕ} (prec : Option ContractPrecision) (l : Mat M K) (w : Mat K N) (acc : Mat M N) (i : Fin M) (j : Fin N) (a b : Fin K → ℝ)
    (hl : ∀ k, l (ix2 i k) = ((a k : ℝ) : EReal)) (hw : ∀ k, w (ix2 k j) = ((b k : ℝ) : EReal)) (h0 : acc (ix2 i j) = 0) :
    FloatOps.matmul (F := Ideal) (φ₁ := .f32) (φ₂ := .f32) (DotDims.plain M K N) prec l w acc (ix2 i j) = ((∑ k, a k * b k : ℝ) : EReal) := by
  rw [Ideal.matmul_plain_apply, h0, zero_add]
  simp only [hl, hw, ← EReal.coe_mul, coe_sum]

/-- The host's product, read at an index. -/
theorem dot_coe {M K N : ℕ} (prec : Option ContractPrecision) (l : Mat M K) (w : Mat K N) (i : Fin M) (j : Fin N) (a b : Fin K → ℝ)
    (hl : ∀ k, l (ix2 i k) = ((a k : ℝ) : EReal)) (hw : ∀ k, w (ix2 k j) = ((b k : ℝ) : EReal)) :
    Host.dotGeneral (F := Ideal) (φ₁ := .f32) (φ₂ := .f32) (DotDims.plain M K N) prec l w (ix2 i j) = ((∑ k, a k * b k : ℝ) : EReal) := by
  rw [StackMember.dotGeneral_plain_apply]
  simp only [hl, hw, ← EReal.coe_mul, coe_sum]

/-- Two matrices of the same columns, one above the other, or of the same rows, side by side: read in each piece. -/
theorem beside_left {α : Type} {m a b c : ℕ} (x : (⟨2, ![m, a]⟩ : Shape).Idx → α) (y : (⟨2, ![m, b]⟩ : Shape).Idx → α)
    (h : Shape.Concatenates [⟨2, ![m, a]⟩, ⟨2, ![m, b]⟩] ⟨2, ![m, c]⟩ 1) (i : Fin m) (j : Fin a) (hj : j.val < c) :
    concatenate ⟨2, ![m, c]⟩ 1 [⟨⟨2, ![m, a]⟩, x⟩, ⟨⟨2, ![m, b]⟩, y⟩] h (ix2 i ⟨j.val, hj⟩) = x (ix2 i j) :=
  concatenate_pair_apply_left (s₁ := ⟨2, ![m, a]⟩) (s₂ := ⟨2, ![m, b]⟩) (1 : Fin (⟨2, ![m, c]⟩ : Shape).rank) x y h _ rfl (ix2 i j)
    (fun d => by match d with | ⟨0, _⟩ => rfl | ⟨1, _⟩ => rfl)

theorem beside_right {α : Type} {m a b c : ℕ} (x : (⟨2, ![m, a]⟩ : Shape).Idx → α) (y : (⟨2, ![m, b]⟩ : Shape).Idx → α)
    (h : Shape.Concatenates [⟨2, ![m, a]⟩, ⟨2, ![m, b]⟩] ⟨2, ![m, c]⟩ 1) (i : Fin m) (j : Fin b) (hj : a + j.val < c) :
    concatenate ⟨2, ![m, c]⟩ 1 [⟨⟨2, ![m, a]⟩, x⟩, ⟨⟨2, ![m, b]⟩, y⟩] h (ix2 i ⟨a + j.val, hj⟩) = y (ix2 i j) :=
  concatenate_pair_apply_right (s₁ := ⟨2, ![m, a]⟩) (s₂ := ⟨2, ![m, b]⟩) (1 : Fin (⟨2, ![m, c]⟩ : Shape).rank) x y h _ rfl rfl (ix2 i j)
    (fun d hd => by match d with | ⟨0, _⟩ => rfl | ⟨1, _⟩ => exact absurd rfl hd) (Nat.add_comm _ _)

/-- Three matrices side by side. -/
theorem beside_three {α : Type} {m a b c d : ℕ} (x : (⟨2, ![m, a]⟩ : Shape).Idx → α) (y : (⟨2, ![m, b]⟩ : Shape).Idx → α)
    (z : (⟨2, ![m, c]⟩ : Shape).Idx → α) (h : Shape.Concatenates [⟨2, ![m, a]⟩, ⟨2, ![m, b]⟩, ⟨2, ![m, c]⟩] ⟨2, ![m, d]⟩ 1) (i : Fin m) :
    (∀ (j : Fin a) (hj : j.val < d), concatenate ⟨2, ![m, d]⟩ 1 [⟨⟨2, ![m, a]⟩, x⟩, ⟨⟨2, ![m, b]⟩, y⟩, ⟨⟨2, ![m, c]⟩, z⟩] h (ix2 i ⟨j.val, hj⟩) = x (ix2 i j))
      ∧ (∀ (j : Fin b) (hj : a + j.val < d),
          concatenate ⟨2, ![m, d]⟩ 1 [⟨⟨2, ![m, a]⟩, x⟩, ⟨⟨2, ![m, b]⟩, y⟩, ⟨⟨2, ![m, c]⟩, z⟩] h (ix2 i ⟨a + j.val, hj⟩) = y (ix2 i j))
      ∧ (∀ (j : Fin c) (hj : a + b + j.val < d),
          concatenate ⟨2, ![m, d]⟩ 1 [⟨⟨2, ![m, a]⟩, x⟩, ⟨⟨2, ![m, b]⟩, y⟩, ⟨⟨2, ![m, c]⟩, z⟩] h (ix2 i ⟨a + b + j.val, hj⟩) = z (ix2 i j)) := by
  refine ⟨fun j hj => ?_, fun j hj => ?_, fun j hj => ?_⟩
  · exact concatenate_apply_piece (1 : Fin (⟨2, ![m, d]⟩ : Shape).rank) _ _ _ 0 (by show 0 < 3; omega) ⟨2, ![m, a]⟩ x rfl rfl 0 rfl (ix2 i j)
      (fun e he => by match e with | ⟨0, _⟩ => rfl | ⟨1, _⟩ => exact absurd rfl he) (Nat.zero_add _)
  · exact concatenate_apply_piece (1 : Fin (⟨2, ![m, d]⟩ : Shape).rank) _ _ _ 1 (by show 1 < 3; omega) ⟨2, ![m, b]⟩ y rfl rfl a
      (by simp) (ix2 i j)
      (fun e he => by match e with | ⟨0, _⟩ => rfl | ⟨1, _⟩ => exact absurd rfl he) rfl
  · exact concatenate_apply_piece (1 : Fin (⟨2, ![m, d]⟩ : Shape).rank) _ _ _ 2 (by show 2 < 3; omega) ⟨2, ![m, c]⟩ z rfl rfl (a + b)
      (by simp) (ix2 i j)
      (fun e he => by match e with | ⟨0, _⟩ => rfl | ⟨1, _⟩ => exact absurd rfl he) rfl

/-- Three matrices one above the other. -/
theorem above_three {α : Type} {n a b c d : ℕ} (x : (⟨2, ![a, n]⟩ : Shape).Idx → α) (y : (⟨2, ![b, n]⟩ : Shape).Idx → α)
    (z : (⟨2, ![c, n]⟩ : Shape).Idx → α) (h : Shape.Concatenates [⟨2, ![a, n]⟩, ⟨2, ![b, n]⟩, ⟨2, ![c, n]⟩] ⟨2, ![d, n]⟩ 0) (i : Fin n) :
    (∀ (j : Fin a) (hj : j.val < d), concatenate ⟨2, ![d, n]⟩ 0 [⟨⟨2, ![a, n]⟩, x⟩, ⟨⟨2, ![b, n]⟩, y⟩, ⟨⟨2, ![c, n]⟩, z⟩] h (ix2 ⟨j.val, hj⟩ i) = x (ix2 j i))
      ∧ (∀ (j : Fin b) (hj : a + j.val < d),
          concatenate ⟨2, ![d, n]⟩ 0 [⟨⟨2, ![a, n]⟩, x⟩, ⟨⟨2, ![b, n]⟩, y⟩, ⟨⟨2, ![c, n]⟩, z⟩] h (ix2 ⟨a + j.val, hj⟩ i) = y (ix2 j i))
      ∧ (∀ (j : Fin c) (hj : a + b + j.val < d),
          concatenate ⟨2, ![d, n]⟩ 0 [⟨⟨2, ![a, n]⟩, x⟩, ⟨⟨2, ![b, n]⟩, y⟩, ⟨⟨2, ![c, n]⟩, z⟩] h (ix2 ⟨a + b + j.val, hj⟩ i) = z (ix2 j i)) := by
  refine ⟨fun j hj => ?_, fun j hj => ?_, fun j hj => ?_⟩
  · exact concatenate_apply_piece (0 : Fin (⟨2, ![d, n]⟩ : Shape).rank) _ _ _ 0 (by show 0 < 3; omega) ⟨2, ![a, n]⟩ x rfl rfl 0 rfl (ix2 j i)
      (fun e he => by match e with | ⟨0, _⟩ => exact absurd rfl he | ⟨1, _⟩ => rfl) (Nat.zero_add _)
  · exact concatenate_apply_piece (0 : Fin (⟨2, ![d, n]⟩ : Shape).rank) _ _ _ 1 (by show 1 < 3; omega) ⟨2, ![b, n]⟩ y rfl rfl a
      (by simp) (ix2 j i)
      (fun e he => by match e with | ⟨0, _⟩ => exact absurd rfl he | ⟨1, _⟩ => rfl) rfl
  · exact concatenate_apply_piece (0 : Fin (⟨2, ![d, n]⟩ : Shape).rank) _ _ _ 2 (by show 2 < 3; omega) ⟨2, ![c, n]⟩ z rfl rfl (a + b)
      (by simp) (ix2 j i)
      (fun e he => by match e with | ⟨0, _⟩ => exact absurd rfl he | ⟨1, _⟩ => rfl) rfl

/-- A row repeated down a matrix. -/
theorem row_down {α : Type} {m n : ℕ} (x : (⟨2, ![1, n]⟩ : Shape).Idx → α) (h : (⟨2, ![1, n]⟩ : Shape).Broadcasts ⟨2, ![m, n]⟩) (hn : n ≠ 1)
    (i : Fin m) (j : Fin n) : broadcastTo ⟨2, ![m, n]⟩ x h (ix2 i j) = x (ix2 (0 : Fin 1) j) :=
  broadcastTo_apply x h _ _ fun a => by
    match a with
    | ⟨0, _⟩ => rfl
    | ⟨1, _⟩ => exact (if_neg hn).symm

/-- Columns of a matrix from an offset on. -/
theorem columns_from {α : Type} {m n a : ℕ} (o : ℕ) (x : (⟨2, ![m, n]⟩ : Shape).Idx → α) (h : (⟨2, ![m, n]⟩ : Shape).Slices ![0, o] ⟨2, ![m, a]⟩)
    (i : Fin m) (j : Fin a) (hj : o + j.val < n) : extractStridedSlice ⟨2, ![m, a]⟩ ![0, o] x h (ix2 i j) = x (ix2 i ⟨o + j.val, hj⟩) :=
  extractStridedSlice_apply _ x h _ _ fun d => by
    match d with
    | ⟨0, _⟩ => exact (Nat.zero_add _).symm
    | ⟨1, _⟩ => rfl

end Fusion
-- ==== Proof.KernelIdeal.Weights.lean ====
/-
  What the second pass computes of the counts: the statistics, the weights and, from the weights, the lanes' weights; and a row's result, the
  sum of its lanes by weight.
-/
module

public import proofs.«01_k».proof.Proof.Gen.KernelIdeal.Skeleton
public import proofs.«01_k».proof.Proof.Fusion.Product

@[expose] public section

open Idealize.ShloMosaic Idealize.ShloMosaic.ValueIdx Fusion
open scoped BigOperators

namespace Cert.KernelIdeal.Value

open Cert.KernelIdeal Cert.KernelIdeal.Gen

/-- The counts' array holds those of `D`: gated rows and gated labelled rows of the text and image values, and the labelled rows. -/
structure HoldsCounts (D : Data) (s : Mat 2 384) : Prop where
  t : ∀ f : Fin 128, s (ix2 (0 : Fin 2) ⟨f.val, by omega⟩) = ((gated D.tV f : ℝ) : EReal)
  u : ∀ f : Fin 128, s (ix2 (0 : Fin 2) ⟨128 + f.val, by omega⟩) = ((gated D.iV f : ℝ) : EReal)
  tl : ∀ f : Fin 128, s (ix2 (1 : Fin 2) ⟨f.val, by omega⟩) = ((gatedLab D.lab D.tV f : ℝ) : EReal)
  ul : ∀ f : Fin 128, s (ix2 (1 : Fin 2) ⟨128 + f.val, by omega⟩) = ((gatedLab D.lab D.iV f : ℝ) : EReal)
  l : ∀ f : Fin 128, s (ix2 (1 : Fin 2) ⟨256 + f.val, by omega⟩) = ((labelled D.lab : ℝ) : EReal)

/-! ## The statistic of one column -/

theorem n1_apply (s : Mat 2 384) (j : Fin 256) : k2_pay3 (F := Ideal) s (ix2 (0 : Fin 1) j) = s (ix2 (0 : Fin 2) (⟨j.val, by omega⟩ : Fin 384)) := by
  unfold k2_pay3 k2_pay2
  rw [shapeCast_self]
  exact extractStridedSlice_apply _ s _ _ _ fun d => by match d with | ⟨0, _⟩ => rfl | ⟨1, _⟩ => exact (Nat.zero_add _).symm

theorem n11_apply (s : Mat 2 384) (j : Fin 256) : k2_pay4 (F := Ideal) s (ix2 (0 : Fin 1) j) = s (ix2 (1 : Fin 2) (⟨j.val, by omega⟩ : Fin 384)) := by
  unfold k2_pay4 k2_pay2
  rw [shapeCast_self]
  exact extractStridedSlice_apply _ s _ _ _ fun d => by match d with | ⟨0, _⟩ => rfl | ⟨1, _⟩ => exact (Nat.zero_add _).symm

theorem nl_apply (s : Mat 2 384) (f : Fin 128) :
    k2_pay5 (F := Ideal) s (ix2 (0 : Fin 1) (⟨f.val, by omega⟩ : Fin 256)) = s (ix2 (1 : Fin 2) (⟨256 + f.val, by omega⟩ : Fin 384))
      ∧ k2_pay5 (F := Ideal) s (ix2 (0 : Fin 1) (⟨128 + f.val, by omega⟩ : Fin 256)) = s (ix2 (1 : Fin 2) (⟨256 + f.val, by omega⟩ : Fin 384)) := by
  unfold k2_pay5 k2_pay2
  rw [shapeCast_self]
  have e : extractStridedSlice S1x128 ![1, 256] s Facts₀.slices_S2x384_o1_256_S1x128 (ix2 (0 : Fin 1) f)
      = s (ix2 (1 : Fin 2) (⟨256 + f.val, by omega⟩ : Fin 384)) :=
    extractStridedSlice_apply _ s _ _ _ fun d => by match d with | ⟨0, _⟩ => rfl | ⟨1, _⟩ => rfl
  exact ⟨(beside_left (c := 256) _ _ Facts₀.concatenates_S1x128_S1x128_S1x256_d1 0 f (by omega)).trans e,
    (beside_right (c := 256) _ _ Facts₀.concatenates_S1x128_S1x128_S1x256_d1 0 f (by omega)).trans e⟩

/-- The statistic of a column from its three counts. -/
theorem chi_apply (s : Mat 2 384) (j : Fin 256) (n1 n11 nl : ℝ) (h1 : k2_pay3 (F := Ideal) s (ix2 (0 : Fin 1) j) = ((n1 : ℝ) : EReal))
    (h11 : k2_pay4 (F := Ideal) s (ix2 (0 : Fin 1) j) = ((n11 : ℝ) : EReal)) (hl : k2_pay5 (F := Ideal) s (ix2 (0 : Fin 1) j) = ((nl : ℝ) : EReal))
    (p1 : 0 ≤ n1) (q1 : n1 ≤ rows) (pl : 0 ≤ nl) (ql : nl ≤ rows) :
    addf (F := Ideal) (φ := .f32) (k2_pay8 s) (divf (k2_pay9 s) (addf (k2_pay7 s) (broadcast S1x256 (Scalar.ofBits .f32 0x358637BD#32)))) (ix2 (0 : Fin 1) j)
      = ((chiOf n1 n11 nl : ℝ) : EReal) := by
  have tot : k2_pay6 (F := Ideal) = ((rows + eps : ℝ) : EReal) := by
    show Ideal.ofBits .f32 0x48000000#32 + Ideal.ofBits .f32 0x358637BD#32 = _
    rw [ofBits_rows, ofBits_eps, EReal.coe_add]
  have ne := rows_eps_pos.ne'
  have h0 := sub_nonneg.2 q1
  have h0l := sub_nonneg.2 ql
  have e7 : k2_pay7 (F := Ideal) s (ix2 (0 : Fin 1) j) = ((nl * n1 / (rows + eps) : ℝ) : EReal) := by
    show Ideal.div (k2_pay5 (F := Ideal) s (ix2 (0 : Fin 1) j) * k2_pay3 (F := Ideal) s (ix2 (0 : Fin 1) j)) (k2_pay6 (F := Ideal)) = _
    rw [h1, hl, tot, ← EReal.coe_mul, coe_div _ ne]
  have a00 : Ideal.div (((rows - nl : ℝ) : EReal) * ((rows - n1 : ℝ) : EReal)) (((rows + eps : ℝ)) : EReal) = (((rows - nl) * (rows - n1) / (rows + eps) : ℝ) : EReal) := by
    rw [← EReal.coe_mul, coe_div _ ne]
  have a01 : Ideal.div (((rows - nl : ℝ) : EReal) * ((n1 : ℝ) : EReal)) (((rows + eps : ℝ)) : EReal) = (((rows - nl) * n1 / (rows + eps) : ℝ) : EReal) := by
    rw [← EReal.coe_mul, coe_div _ ne]
  have a10 : Ideal.div (((nl : ℝ) : EReal) * ((rows - n1 : ℝ) : EReal)) (((rows + eps : ℝ)) : EReal) = ((nl * (rows - n1) / (rows + eps) : ℝ) : EReal) := by
    rw [← EReal.coe_mul, coe_div _ ne]
  have e8 : k2_pay8 (F := Ideal) s (ix2 (0 : Fin 1) j) = ((cell (rows - n1 - nl + n11) ((rows - nl) * (rows - n1) / (rows + eps))
      + cell (nl - n11) ((rows - nl) * n1 / (rows + eps)) + cell (n1 - n11) (nl * (rows - n1) / (rows + eps)) : ℝ) : EReal) := by
    unfold k2_pay8
    simp only [addf_apply, subf_apply, mulf_apply, divf_apply, broadcast_apply, h1, h11, hl, tot]
    show Ideal.div ((Ideal.ofBits .f32 0x48000000#32 - (n1 : EReal) - (nl : EReal) + (n11 : EReal)
        - Ideal.div ((Ideal.ofBits .f32 0x48000000#32 - (nl : EReal)) * (Ideal.ofBits .f32 0x48000000#32 - (n1 : EReal))) ((rows + eps : ℝ) : EReal))
      * (Ideal.ofBits .f32 0x48000000#32 - (n1 : EReal) - (nl : EReal) + (n11 : EReal)
        - Ideal.div ((Ideal.ofBits .f32 0x48000000#32 - (nl : EReal)) * (Ideal.ofBits .f32 0x48000000#32 - (n1 : EReal))) ((rows + eps : ℝ) : EReal)))
      (Ideal.div ((Ideal.ofBits .f32 0x48000000#32 - (nl : EReal)) * (Ideal.ofBits .f32 0x48000000#32 - (n1 : EReal))) ((rows + eps : ℝ) : EReal)
        + Ideal.ofBits .f32 0x358637BD#32)
      + Ideal.div (((nl : EReal) - (n11 : EReal) - Ideal.div ((Ideal.ofBits .f32 0x48000000#32 - (nl : EReal)) * (n1 : EReal)) ((rows + eps : ℝ) : EReal))
        * ((nl : EReal) - (n11 : EReal) - Ideal.div ((Ideal.ofBits .f32 0x48000000#32 - (nl : EReal)) * (n1 : EReal)) ((rows + eps : ℝ) : EReal)))
        (Ideal.div ((Ideal.ofBits .f32 0x48000000#32 - (nl : EReal)) * (n1 : EReal)) ((rows + eps : ℝ) : EReal) + Ideal.ofBits .f32 0x358637BD#32)
      + Ideal.div (((n1 : EReal) - (n11 : EReal) - Ideal.div ((nl : EReal) * (Ideal.ofBits .f32 0x48000000#32 - (n1 : EReal))) ((rows + eps : ℝ) : EReal))
        * ((n1 : EReal) - (n11 : EReal) - Ideal.div ((nl : EReal) * (Ideal.ofBits .f32 0x48000000#32 - (n1 : EReal))) ((rows + eps : ℝ) : EReal)))
        (Ideal.div ((nl : EReal) * (Ideal.ofBits .f32 0x48000000#32 - (n1 : EReal))) ((rows + eps : ℝ) : EReal) + Ideal.ofBits .f32 0x358637BD#32) = _
    rw [ofBits_rows, ofBits_eps]
    simp only [← EReal.coe_sub] at *
    rw [a00, a01, a10]
    simp only [← EReal.coe_sub, ← EReal.coe_add, ← EReal.coe_mul]
    rw [coe_div _ (expect_eps_pos h0l h0).ne', coe_div _ (expect_eps_pos h0l p1).ne', coe_div _ (expect_eps_pos pl h0).ne', ← EReal.coe_add, ← EReal.coe_add]
    rfl
  rw [addf_apply, divf_apply, addf_apply, e8, e7]
  show _ + Ideal.div ((k2_pay4 (F := Ideal) s (ix2 (0 : Fin 1) j) - k2_pay7 (F := Ideal) s (ix2 (0 : Fin 1) j))
    * (k2_pay4 (F := Ideal) s (ix2 (0 : Fin 1) j) - k2_pay7 (F := Ideal) s (ix2 (0 : Fin 1) j))) (_ + Ideal.ofBits .f32 0x358637BD#32) = _
  rw [h11, e7, ofBits_eps, coe_cell _ (expect_nonneg pl p1), ← EReal.coe_add]
  rfl

/-! ## The weights -/

section

variable {D : Data} {s : Mat 2 384} (H : HoldsCounts D s)

/-- The statistics of the text values, then of the image values. -/
theorem chi_pair (H : HoldsCounts D s) (f : Fin 128) :
    addf (F := Ideal) (φ := .f32) (k2_pay8 s) (divf (k2_pay9 s) (addf (k2_pay7 s) (broadcast S1x256 (Scalar.ofBits .f32 0x358637BD#32))))
        (ix2 (0 : Fin 1) (⟨f.val, by omega⟩ : Fin 256)) = ((D.chiT f : ℝ) : EReal)
      ∧ addf (F := Ideal) (φ := .f32) (k2_pay8 s) (divf (k2_pay9 s) (addf (k2_pay7 s) (broadcast S1x256 (Scalar.ofBits .f32 0x358637BD#32))))
        (ix2 (0 : Fin 1) (⟨128 + f.val, by omega⟩ : Fin 256)) = ((D.chiI f : ℝ) : EReal) :=
  ⟨chi_apply s _ _ _ _ ((n1_apply s _).trans (H.t f)) ((n11_apply s _).trans (H.tl f)) ((nl_apply s f).1.trans (H.l f)) (gated_nonneg _ _) (gated_le _ _)
      (labelled_nonneg _) (labelled_le _),
    chi_apply s _ _ _ _ ((n1_apply s _).trans (H.u f)) ((n11_apply s _).trans (H.ul f)) ((nl_apply s f).2.trans (H.l f)) (gated_nonneg _ _) (gated_le _ _)
      (labelled_nonneg _) (labelled_le _)⟩

/-- The weights: each statistic over the greatest. -/
theorem alpha_apply (c : Mat 1 256) (v28 v45 v47 : Mat 1 256) (e : EReal)
    (hc : c = addf (F := Ideal) (φ := .f32) v45 (divf v47 (addf v28 (broadcast S1x256 e))))
    (g h : Fin 128 → ℝ) (hg : ∀ f : Fin 128, c (ix2 (0 : Fin 1) ⟨f.val, by omega⟩) = ((g f : ℝ) : EReal))
    (hh : ∀ f : Fin 128, c (ix2 (0 : Fin 1) ⟨128 + f.val, by omega⟩) = ((h f : ℝ) : EReal)) (j : Fin 256) :
    k2_pay10 (F := Ideal) v28 v45 v47 e (ix2 (0 : Fin 1) j) = Ideal.div (c (ix2 (0 : Fin 1) j)) ((max (top g) (top h) + eps : ℝ) : EReal) := by
  have m : multiReduction (F := Ideal) (φ := .f32) .maximumf [1] S1 c 0xFF800000#32 Facts₀.reduces_S1x256_S1 (.inl rfl) rfl (ix1 (0 : Fin 1))
      = ((max (top g) (top h) : ℝ) : EReal) := by
    refine (Ideal.multiReduction_maximumf_single c _ _ _ _ _).trans ?_
    have l : ∀ k : Fin 256, Facts₀.reduces_S1x256_S1.lift (ix1 (0 : Fin 1)) k = ix2 (0 : Fin 1) k := fun k => eq_ix2 _
    have b : (FloatOps.ofBits (F := Ideal) .f32 0xFF800000#32) = (⊥ : EReal) := ofBits_bot
    rw [b]
    exact fold_max_pair _ g h (fun f => (congrArg c (l _)).trans (hg f)) (fun f => (congrArg c (l _)).trans (hh f))
  unfold k2_pay10
  rw [← hc, divf_apply]
  refine congrArg (Ideal.div _) ?_
  rw [broadcastTo_apply _ _ _ (ix2 (0 : Fin 1) (0 : Fin 1)) (fun a => by match a with | ⟨0, _⟩ => rfl | ⟨1, _⟩ => rfl), addf_apply]
  refine (congrArg₂ (· + ·) ((shapeCast_apply _ _ _ (ix1 (0 : Fin 1)) rfl).trans m) rfl).trans ?_
  show _ + Ideal.ofBits .f32 0x358637BD#32 = _
  rw [ofBits_eps, EReal.coe_add]

theorem alpha_pair (H : HoldsCounts D s) (f : Fin 128) :
    k2_pay10 (F := Ideal) (k2_pay7 s) (k2_pay8 s) (k2_pay9 s) (Scalar.ofBits .f32 0x358637BD#32) (ix2 (0 : Fin 1) (⟨f.val, by omega⟩ : Fin 256))
        = ((D.alphaT f : ℝ) : EReal)
      ∧ k2_pay10 (F := Ideal) (k2_pay7 s) (k2_pay8 s) (k2_pay9 s) (Scalar.ofBits .f32 0x358637BD#32) (ix2 (0 : Fin 1) (⟨128 + f.val, by omega⟩ : Fin 256))
        = ((D.alphaI f : ℝ) : EReal) := by
  constructor
  · rw [alpha_apply _ _ _ _ _ rfl D.chiT D.chiI (fun f => (chi_pair H f).1) (fun f => (chi_pair H f).2), (chi_pair H f).1]
    exact coe_div _ D.peak_eps_pos.ne'
  · rw [alpha_apply _ _ _ _ _ rfl D.chiT D.chiI (fun f => (chi_pair H f).1) (fun f => (chi_pair H f).2), (chi_pair H f).2]
    exact coe_div _ D.peak_eps_pos.ne'

end

/-! ## The lanes' weights -/

/-- The bits of the tables that send a feature's weight to its lane. -/
theorem bits_low : ∀ (f : Fin 256) (q : Fin 16), IntOp.andi (IntOp.cmpi .slt (BitVec.ofNat 32 f.val) 4#32) (IntOp.cmpi .eq (BitVec.ofNat 32 q.val) (BitVec.ofNat 32 f.val))
    = if f.val < 4 ∧ q.val = f.val then 1#1 else 0#1 := by decide +kernel
theorem bits_high : ∀ (f : Fin 256) (q : Fin 16), IntOp.andi (IntOp.andi (IntOp.cmpi .sge (BitVec.ofNat 32 f.val) 128#32) (IntOp.cmpi .slt (BitVec.ofNat 32 f.val) 132#32))
    (IntOp.cmpi .eq (BitVec.ofNat 32 q.val) (IntOp.subi (BitVec.ofNat 32 f.val) 124#32))
    = if (128 ≤ f.val ∧ f.val < 132) ∧ q.val + 124 = f.val then 1#1 else 0#1 := by decide +kernel
theorem bits_low8 : ∀ (f : Fin 256) (q : Fin 16), IntOp.andi (IntOp.cmpi .slt (BitVec.ofNat 32 f.val) 4#32)
    (IntOp.cmpi .eq (BitVec.ofNat 32 q.val) (IntOp.addi (BitVec.ofNat 32 f.val) 8#32))
    = if f.val < 4 ∧ q.val = f.val + 8 then 1#1 else 0#1 := by decide +kernel
theorem bits_high8 : ∀ (f : Fin 256) (q : Fin 16), IntOp.andi (IntOp.andi (IntOp.cmpi .sge (BitVec.ofNat 32 f.val) 128#32) (IntOp.cmpi .slt (BitVec.ofNat 32 f.val) 132#32))
    (IntOp.cmpi .eq (BitVec.ofNat 32 q.val) (IntOp.subi (BitVec.ofNat 32 f.val) 120#32))
    = if (128 ≤ f.val ∧ f.val < 132) ∧ q.val + 120 = f.val then 1#1 else 0#1 := by decide +kernel
theorem bit_twelve : ∀ q : Fin 16, IntOp.cmpi .eq (BitVec.ofNat 32 q.val) 12#32 = if q.val = 12 then 1#1 else 0#1 := by decide

/-- A selected one or zero. -/
theorem pick_coe (p : Prop) [Decidable p] : Scalar.select (if p then 1#1 else 0#1) (Ideal.ofBits .f32 0x3F800000#32) (Ideal.ofBits .f32 0x00000000#32)
    = (((if p then 1 else 0) : ℝ) : EReal) := by
  rw [ofBits_one, ofBits_zero]
  by_cases h : p
  · rw [if_pos h, if_pos h, select_one]
  · rw [if_neg h, if_neg h, select_zero]

theorem rowNo (h : S256x16.Iotas .tc 32 [0]) (f : Fin 256) (q : Fin 16) : iota .tc S256x16 32 [0] h (ix2 f q) = BitVec.ofNat 32 f.val := iota_single_apply _ _ _ _ _ _
theorem colNo (h : S256x16.Iotas .tc 32 [1]) (f : Fin 256) (q : Fin 16) : iota .tc S256x16 32 [1] h (ix2 f q) = BitVec.ofNat 32 q.val := iota_single_apply _ _ _ _ _ _

theorem tableA_apply (f : Fin 256) (q : Fin 16) :
    k2_pay11 (F := Ideal) (ix2 f q)
      = ((((if f.val < 4 ∧ q.val = f.val then 1 else 0) + (if (128 ≤ f.val ∧ f.val < 132) ∧ q.val + 124 = f.val then 1 else 0) : ℝ)) : EReal) := by
  rw [EReal.coe_add, ← pick_coe, ← pick_coe, ← bits_low, ← bits_high, ← rowNo Facts₀.iota_S256x16_d0_w32 f q, ← colNo Facts₀.iota_S256x16_d1_w32 f q]
  rfl

theorem tableB_apply (f : Fin 256) (q : Fin 16) :
    k2_pay12 (F := Ideal) (ix2 f q) = (((if f.val < 4 ∧ q.val = f.val + 8 then 1 else 0) : ℝ) : EReal) := by
  rw [← pick_coe, ← bits_low8, ← rowNo Facts₀.iota_S256x16_d0_w32 f q, ← colNo Facts₀.iota_S256x16_d1_w32 f q]
  rfl

/-- The third table. -/
noncomputable def tableC : Mat 256 16 :=
  select (andi (andi k2_pay13 (cmpi .slt (iota .tc S256x16 32 [0] Facts₀.iota_S256x16_d0_w32) k2_pay14))
    (cmpi .eq (iota .tc S256x16 32 [1] Facts₀.iota_S256x16_d1_w32) (subi (iota .tc S256x16 32 [0] Facts₀.iota_S256x16_d0_w32) (broadcast S256x16 120#32))))
    (broadcast S256x16 (Ideal.ofBits .f32 0x3F800000#32)) (broadcast S256x16 (Ideal.ofBits .f32 0x00000000#32))

theorem tableC_apply (f : Fin 256) (q : Fin 16) :
    tableC (ix2 f q) = (((if (128 ≤ f.val ∧ f.val < 132) ∧ q.val + 120 = f.val then 1 else 0) : ℝ) : EReal) := by
  rw [← pick_coe, ← bits_high8, ← rowNo Facts₀.iota_S256x16_d0_w32 f q, ← colNo Facts₀.iota_S256x16_d1_w32 f q]
  rfl

/-- The weight of one feature picked out of a sum. -/
theorem sum_pick (a : Fin 128 → ℝ) (g : Fin 128) (P : Fin 128 → Prop) [DecidablePred P] (h : ∀ f, P f ↔ f = g) : ∑ f, a f * (if P f then 1 else 0) = a g := by
  simp only [h, mul_ite, mul_one, mul_zero, Finset.sum_ite_eq', Finset.mem_univ, if_true]

theorem sum_none (a : Fin 128 → ℝ) (P : Fin 128 → Prop) [DecidablePred P] (h : ∀ f, ¬ P f) : ∑ f, a f * (if P f then 1 else 0) = 0 := by
  simp only [h, if_false, mul_zero, Finset.sum_const_zero]

section

variable {D : Data} {w : Mat 1 256}
  (ht : ∀ f : Fin 128, w (ix2 (0 : Fin 1) ⟨f.val, by omega⟩) = ((D.alphaT f : ℝ) : EReal))
  (hi : ∀ f : Fin 128, w (ix2 (0 : Fin 1) ⟨128 + f.val, by omega⟩) = ((D.alphaI f : ℝ) : EReal))

include ht hi

/-- The weights against a table. -/
theorem against (T : Mat 256 16) (t : Fin 256 → Fin 16 → ℝ) (hT : ∀ f q, T (ix2 f q) = ((t f q : ℝ) : EReal)) (q : Fin 16) :
    FloatOps.matmul (F := Ideal) (φ₁ := .f32) (φ₂ := .f32) (DotDims.plain 1 256 16) (some .fp32) w T (constant S1x16 .f32 0x00000000#32) (ix2 (0 : Fin 1) q)
      = ((∑ f : Fin 128, D.alphaT f * t ⟨f.val, by omega⟩ q + ∑ f : Fin 128, D.alphaI f * t ⟨128 + f.val, by omega⟩ q : ℝ) : EReal) := by
  rw [Ideal.matmul_plain_apply, Fin.sum_univ_add (a := 128) (b := 128)]
  have l : ∀ f : Fin 128, w (ix2 (0 : Fin 1) (Fin.castAdd 128 f)) * T (ix2 (Fin.castAdd 128 f) q) = ((D.alphaT f * t ⟨f.val, by omega⟩ q : ℝ) : EReal) := fun f => by
    rw [EReal.coe_mul]; exact congrArg₂ (· * ·) (ht f) (hT _ q)
  have r : ∀ f : Fin 128, w (ix2 (0 : Fin 1) (Fin.natAdd 128 f)) * T (ix2 (Fin.natAdd 128 f) q) = ((D.alphaI f * t ⟨128 + f.val, by omega⟩ q : ℝ) : EReal) := fun f => by
    rw [EReal.coe_mul]; exact congrArg₂ (· * ·) (hi f) (hT _ q)
  rw [Finset.sum_congr rfl fun f _ => l f, Finset.sum_congr rfl fun f _ => r f, coe_sum, coe_sum, ← EReal.coe_add]
  show Ideal.ofBits .f32 0x00000000#32 + _ = _
  rw [ofBits_zero, ← EReal.coe_add, zero_add]

/-- A row's result: its lanes by weight. -/
theorem result_apply (u : Mat 16 16384) (L : Fin 16 → ℝ) (p : Fin 16384) (hu : ∀ q, u (ix2 q p) = ((L q : ℝ) : EReal)) :
    k2_pay1 (F := Ideal) w (iota .tc S256x16 32 [0] Facts₀.iota_S256x16_d0_w32) (iota .tc S256x16 32 [1] Facts₀.iota_S256x16_d1_w32) k2_pay11 k2_pay12 k2_pay13
        k2_pay14 u (ix3 (0 : Fin 1) (0 : Fin 1) p) = ((∑ q, D.laneWeight q * L q : ℝ) : EReal) := by
  have hA := against ht hi _ _ tableA_apply
  have hB := against ht hi _ _ tableB_apply
  have hC := against ht hi _ _ tableC_apply
  have e12 : ∀ q : Fin 16, Scalar.select (IntOp.cmpi .eq (iota .tc S1x16 32 [1] Facts₀.iota_S1x16_d1_w32 (ix2 (0 : Fin 1) q)) 12#32)
      (Ideal.ofBits .f32 0x3F800000#32) (Ideal.ofBits .f32 0x00000000#32) = (((if q.val = 12 then 1 else 0) : ℝ) : EReal) := fun q => by
    rw [iota_single_apply]
    exact (congrArg (fun b => Scalar.select b _ _) (bit_twelve q)).trans (pick_coe _)
  unfold k2_pay1
  rw [shapeCast_self]
  refine (shapeCast_apply _ _ _ (ix2 (0 : Fin 1) p) ?_).trans ?_
  · rw [Shape.rowMajor_val_two, Shape.rowMajor_val_three]; rfl
  refine matmul_coe (M := 1) (K := 16) (N := 16384) (some .fp32) _ u _ 0 p D.laneWeight L (fun q => ?_) hu (ofBits_zero.trans EReal.coe_zero)
  rw [addf_apply, subf_apply, mulf_apply]
  refine (congrArg₂ (· + ·) (congrArg₂ (· - ·) (hA q) (congrArg₂ (· * ·) (hB q) (hC q))) (e12 q)).trans ?_
  rw [← EReal.coe_mul, ← EReal.coe_sub, ← EReal.coe_add]
  refine congrArg _ ?_
  have z : ∀ f : Fin 128, ¬ (128 ≤ f.val ∧ f.val < 132) := fun f => by omega
  have z' : ∀ f : Fin 128, ¬ (128 + f.val < 4) := fun f => by omega
  simp only [z, z', false_and, if_false, add_zero, zero_add, mul_zero, Finset.sum_const_zero]
  unfold Data.laneWeight
  by_cases h4 : q.val < 4
  · rw [if_pos h4, sum_pick D.alphaT ⟨q.val % 4, by omega⟩ _ (fun f => by rw [Fin.ext_iff]; show _ ↔ f.val = q.val % 4; omega), sum_none D.alphaI _ (fun f => by omega),
      sum_none D.alphaT _ (fun f => by omega), if_neg (by omega)]; ring
  · rw [if_neg h4, sum_none D.alphaT (fun f => f.val < 4 ∧ q.val = f.val) (fun f => by omega)]
    by_cases h8 : q.val < 8
    · rw [if_pos h8, sum_pick D.alphaI ⟨q.val % 4, by omega⟩ _ (fun f => by rw [Fin.ext_iff]; show _ ↔ f.val = q.val % 4; omega), sum_none D.alphaT _ (fun f => by omega), if_neg (by omega)]
      ring
    · rw [if_neg h8, sum_none D.alphaI (fun f => (128 ≤ 128 + f.val ∧ 128 + f.val < 132) ∧ q.val + 124 = 128 + f.val) (fun f => by omega)]
      by_cases h12 : q.val < 12
      · rw [if_pos h12, sum_pick D.alphaT ⟨q.val % 4, by omega⟩ _ (fun f => by rw [Fin.ext_iff]; show _ ↔ f.val = q.val % 4; omega),
          sum_pick D.alphaI ⟨q.val % 4, by omega⟩ _ (fun f => by rw [Fin.ext_iff]; show _ ↔ f.val = q.val % 4; omega), if_neg (by omega)]
        ring
      · rw [if_neg h12, sum_none D.alphaT _ (fun f => by omega), sum_none D.alphaI _ (fun f => by omega)]
        ring

end

end Cert.KernelIdeal.Value
-- ==== Proof.KernelIdeal.Rows.lean ====
/-
  What the split and the second pass leave in their arrays: the split leaves its operands; the second pass leaves the rows' results, from the
  counts and the lanes.
-/
module

public import proofs.«01_k».proof.Proof.KernelIdeal.Run
public import proofs.«01_k».proof.Proof.KernelIdeal.Weights
public import Idealize.ShloMosaic.Lib.Pipeline.Value

@[expose] public section

set_option maxRecDepth 16384

open Idealize.ShloMosaic Idealize.ShloMosaic.TcCoe Idealize.ShloMosaic.ValueIdx Fusion
open Idealize.ShloMosaic.Pipeline (Dat Cfg Window)
open scoped BigOperators

namespace Cert.KernelIdeal.Value

open Cert.KernelIdeal Cert.KernelIdeal.Gen Cert.KernelIdeal.Run

variable (V : (c : Dev nD) → (b : Ref sig .tc) → Buf (Elt Ideal) ((c : Thread nD τ).loc b)) (c : Dev nD)

/-- The offsets of a store or a load of a whole buffer. -/
theorem none2 : (![0, 0] : Fin 2 → Nat) = fun _ => 0 := funext fun a => by match a with | ⟨0, _⟩ => rfl | ⟨1, _⟩ => rfl
theorem none3 : (![0, 0, 0] : Fin 3 → Nat) = fun _ => 0 := funext fun a => by match a with | ⟨0, _⟩ => rfl | ⟨1, _⟩ => rfl | ⟨2, _⟩ => rfl

/-! ## The split -/

/-- The split's one point. -/
def splitPoint : Fin cfg0.N := ⟨0, by rw [show cfg0.N = 1 from N_0]; omega⟩

/-- The split's blocks are the arrays. -/
theorem split_in0 (t : Fin cfg0.N) : iblk0 V c 0 t = V c main_v49 := by
  have hz : (fun a => win0_0.index t a * main_v49.ty.shape.size a) = fun _ => 0 := funext fun a => Nat.zero_mul _
  exact Memref.read_access_unit_zero (Elt Ideal) main_v49 hz (fun a => by rw [congrFun hz a]; simp) (V c main_v49)

theorem split_in1 (t : Fin cfg0.N) : iblk0 V c 1 t = V c main_v50 := by
  have hz : (fun a => win0_1.index t a * main_v50.ty.shape.size a) = fun _ => 0 := funext fun a => Nat.zero_mul _
  exact Memref.read_access_unit_zero (Elt Ideal) main_v50 hz (fun a => by rw [congrFun hz a]; simp) (V c main_v50)

theorem k0_pay1_eq (x : Mat 256 128) : k0_pay1 (F := Ideal) x = x := by
  show shapeCast S256x128 x _ = x
  exact shapeCast_self _ _

theorem k0_pay2_eq (x : Mat 256 128) : k0_pay2 (F := Ideal) x = x := by
  show shapeCast S256x128 x _ = x
  exact shapeCast_self _ _

theorem split_v51_0 : (dat0 (F := Ideal) V c).arrAt 2 cfg0.N = V c main_v49 :=
  (dat0 V c).arrAt_eq_of_cover 2 _ (fun t _ => by
      have hz : (fun a => win0_2.index t a * main_v51_0.ty.shape.size a) = fun _ => 0 := funext fun a => Nat.zero_mul _
      refine Eq.trans ?_ (Memref.read_access_unit_zero (Elt Ideal) main_v51_0 hz (fun a => by rw [congrFun hz a]; simp) (V c main_v49)).symm
      show (dat0 V c).after 2 t = V c main_v49
      rw [after0_2, split_in0, split_in1]
      unfold out0_2
      rw [View.canon_unit_zero none2, View.ld_unit_zero (S := S256x128) none2]
      exact k0_pay1_eq _)
    fun i => ⟨splitPoint, flush0_2 _, by
      show i ∈ ((View.whole main_v51_0).slice (win0_2.rect splitPoint)).set
      rw [View.set_slice_whole, Rect.mem_set_unit]
      intro a
      have h := (i a).isLt
      show 0 * _ ≤ (i a : Nat) ∧ (i a : Nat) < 0 * _ + main_v51_0.ty.shape.size a
      exact ⟨by simp, by simpa using h⟩⟩

theorem split_v51_1 : (dat0 (F := Ideal) V c).arrAt 3 cfg0.N = V c main_v50 :=
  (dat0 V c).arrAt_eq_of_cover 3 _ (fun t _ => by
      have hz : (fun a => win0_3.index t a * main_v51_1.ty.shape.size a) = fun _ => 0 := funext fun a => Nat.zero_mul _
      refine Eq.trans ?_ (Memref.read_access_unit_zero (Elt Ideal) main_v51_1 hz (fun a => by rw [congrFun hz a]; simp) (V c main_v50)).symm
      show (dat0 V c).after 3 t = V c main_v50
      rw [after0_3, split_in0, split_in1]
      unfold out0_3
      rw [View.canon_unit_zero none2, View.ld_unit_zero (S := S256x128) none2]
      exact k0_pay2_eq _)
    fun i => ⟨splitPoint, flush0_3 _, by
      show i ∈ ((View.whole main_v51_1).slice (win0_3.rect splitPoint)).set
      rw [View.set_slice_whole, Rect.mem_set_unit]
      intro a
      have h := (i a).isLt
      show 0 * _ ≤ (i a : Nat) ∧ (i a : Nat) < 0 * _ + main_v51_1.ty.shape.size a
      exact ⟨by simp, by simpa using h⟩⟩

/-! ## The second pass -/

/-- Where its windows stand at a point. -/
theorem at_point2 : ∀ t : Fin cfg2.N, (win2_0.index t 0 = 0 ∧ win2_0.index t 1 = 0) ∧ (win2_1.index t 0 = 0 ∧ win2_1.index t 1 = t.val)
    ∧ (win2_2.index t 0 = t.val ∧ win2_2.index t 1 = 0 ∧ win2_2.index t 2 = 0) :=
  (by decide +kernel : ∀ t : Fin grid2.N, (win2_0.index t 0 = 0 ∧ win2_0.index t 1 = 0) ∧ (win2_1.index t 0 = 0 ∧ win2_1.index t 1 = t.val)
    ∧ (win2_2.index t 0 = t.val ∧ win2_2.index t 1 = 0 ∧ win2_2.index t 2 = 0))

theorem counts_in (t : Fin cfg2.N) : iblk2 V c 0 t = V c main_v93_1 := by
  have hz : (fun a => win2_0.index t a * main_v93_1.ty.shape.size a) = fun _ => 0 := funext fun a => by
    match a with
    | ⟨0, _⟩ => show win2_0.index t 0 * _ = 0; rw [(at_point2 t).1.1, Nat.zero_mul]
    | ⟨1, _⟩ => show win2_0.index t 1 * _ = 0; rw [(at_point2 t).1.2, Nat.zero_mul]
  exact Memref.read_access_unit_zero (Elt Ideal) main_v93_1 hz (fun a => by rw [congrFun hz a]; simp) (V c main_v93_1)

theorem lanes_in (t : Fin cfg2.N) (q : Fin 16) (p : Fin 16384) (r : Fin 131072) (hr : r.val = 16384 * t.val + p.val) :
    iblk2 V c 1 t (ix2 q p) = V c main_v93_0 (ix2 q r) := by
  unfold iblk2
  rw [View.read_apply]
  show V c main_v93_0 _ = V c main_v93_0 _
  congr 1
  funext a
  apply Fin.ext
  match a with
  | ⟨0, _⟩ => show win2_1.index t 0 * 16 + 1 * q.val = q.val; rw [(at_point2 t).2.1.1]; omega
  | ⟨1, _⟩ => show win2_1.index t 1 * 16384 + 1 * p.val = r.val; rw [(at_point2 t).2.1.2]; omega

/-- The point of a block of rows. -/
def blockPoint (t : Fin 8) : Fin cfg2.N := ⟨t.val, by rw [show cfg2.N = 8 from N_2]; exact t.isLt⟩

/-- The result array before its reshape: the row at a block and a place in it. -/
noncomputable def rowResults (D : Data) : (⟨3, ![8, 1, 16384]⟩ : Shape).Idx → EReal := fun i =>
  ((D.laneOut ⟨16384 * (i 0).val + (i 2).val, by
    have h0 : (i 0 : Nat) < 8 := (i 0).isLt
    have h2 : (i 2 : Nat) < 16384 := (i 2).isLt
    omega⟩ : ℝ) : EReal)

variable {D : Data}

theorem results_block (H : HoldsCounts D (V c main_v93_1)) (hl : ∀ q r, V c main_v93_0 (ix2 q r) = ((D.lane r q : ℝ) : EReal)) (t : Fin cfg2.N)
    (p : Fin 16384) (r : Fin 131072) (hr : r.val = 16384 * t.val + p.val) :
    out2_2 (F := Ideal) (iblk2 V c 0 t) (iblk2 V c 1 t) (ix3 (0 : Fin 1) (0 : Fin 1) p) = ((D.laneOut r : ℝ) : EReal) := by
  unfold out2_2
  rw [View.canon_unit_zero none3, View.ld_unit_zero (S := S2x384) none2, View.ld_unit_zero (S := S16x16384) none2, counts_in]
  refine result_apply (fun f => ((alpha_pair H f).1)) (fun f => ((alpha_pair H f).2)) _ (fun q => D.lane r q) p fun q => ?_
  rw [lanes_in V c t q p r hr, hl]

theorem results (H : HoldsCounts D (V c main_v93_1)) (hl : ∀ q r, V c main_v93_0 (ix2 q r) = ((D.lane r q : ℝ) : EReal)) :
    (dat2 (F := Ideal) V c).arrAt 2 cfg2.N = rowResults D :=
  (dat2 V c).arrAt_eq_of_cover 2 (rowResults D) (fun t _ => by
      have ht : t.val < 8 := Nat.lt_of_lt_of_eq t.isLt N_2
      show (dat2 V c).after 2 t = _
      rw [after2_2]
      funext y
      rw [View.read_apply]
      have h0 : (y 0 : Nat) < 1 := (y 0).isLt
      have h1 : (y 1 : Nat) < 1 := (y 1).isLt
      have h2 : (y 2 : Nat) < 16384 := (y 2).isLt
      have ey : y = ix3 (0 : Fin 1) (0 : Fin 1) ⟨(y 2).val, h2⟩ := by
        funext a
        apply Fin.ext
        match a with
        | ⟨0, _⟩ => show (y 0 : Nat) = 0; omega
        | ⟨1, _⟩ => show (y 1 : Nat) = 0; omega
        | ⟨2, _⟩ => rfl
      refine (congrArg (out2_2 (F := Ideal) (iblk2 V c 0 t) (iblk2 V c 1 t)) ey).trans ?_
      refine (results_block V c H hl t ⟨(y 2).val, h2⟩ ⟨16384 * t.val + (y 2).val, by omega⟩ rfl).trans ?_
      unfold rowResults
      refine congrArg (fun r : Fin 131072 => ((D.laneOut r : ℝ) : EReal)) (Fin.ext ?_)
      show 16384 * t.val + (y 2).val = 16384 * (win2_2.index t 0 * 1 + 1 * (y 0).val) + (win2_2.index t 2 * 16384 + 1 * (y 2).val)
      rw [(at_point2 t).2.2.1, (at_point2 t).2.2.2.2]
      omega)
    fun i => by
      have h0 : (i 0 : Nat) < 8 := (i 0).isLt
      have h1 : (i 1 : Nat) < 1 := (i 1).isLt
      have h2 : (i 2 : Nat) < 16384 := (i 2).isLt
      refine ⟨blockPoint ⟨(i 0).val, h0⟩, flush2_2 _, ?_⟩
      show i ∈ ((View.whole main_v94).slice (win2_2.rect (blockPoint ⟨(i 0).val, h0⟩))).set
      rw [View.set_slice_whole, Rect.mem_set_unit]
      obtain ⟨e0, e1, e2⟩ := (at_point2 (blockPoint ⟨(i 0).val, h0⟩)).2.2
      generalize ht : blockPoint ⟨(i 0).val, h0⟩ = t at e0 e1 e2 ⊢
      have hv : t.val = (i 0).val := by rw [← ht]; rfl
      have x2 : win2_2.xsize (grid2.coords t) 2 = 16384 := rfl
      intro a
      match a with
      | ⟨0, _⟩ => show win2_2.index t 0 * 1 ≤ (i 0 : Nat) ∧ (i 0 : Nat) < win2_2.index t 0 * 1 + 1
                  rw [e0]; omega
      | ⟨1, _⟩ => show win2_2.index t 1 * 1 ≤ (i 1 : Nat) ∧ (i 1 : Nat) < win2_2.index t 1 * 1 + 1
                  rw [e1]; omega
      | ⟨2, _⟩ => show win2_2.index t 2 * 16384 ≤ (i 2 : Nat) ∧ (i 2 : Nat) < win2_2.index t 2 * 16384 + win2_2.xsize (grid2.coords t) 2
                  rw [e2, x2]; omega

end Cert.KernelIdeal.Value
-- ==== Proof.KernelIdeal.Block.lean ====
/-
  What the first pass computes of one block of 4096 rows, where its arrays hold real numbers: the sixteen lanes and the block's counts.
-/
module

public import proofs.«01_k».proof.Proof.Gen.KernelIdeal.Launch
public import proofs.«01_k».proof.Proof.Gen.KernelIdeal.Skeleton
public import proofs.«01_k».proof.Proof.Fusion.Product

@[expose] public section

open Idealize.ShloMosaic Idealize.ShloMosaic.ValueIdx Fusion
open scoped BigOperators

namespace Cert.KernelIdeal.Value

open Cert.KernelIdeal Cert.KernelIdeal.Gen

/-! ## A block's product with its weights -/

/-- The weights a block is multiplied by hold `A`: their top, their middle and their bottom. The rows are split in a high part, which is the
row itself, and a rest, which is zero; the top is `A` and the middle nothing. -/
structure HoldsWeights (A : Fin 256 → Fin 160 → ℝ) (w : Mat 768 160) : Prop where
  top : ∀ k c, w (ix2 (⟨k.val, by omega⟩ : Fin 768) c) = ((A k c : ℝ) : EReal)
  mid : ∀ (k : Fin 256) c, w (ix2 (⟨256 + k.val, by omega⟩ : Fin 768) c) = ((0 : ℝ) : EReal)
  low : ∀ (k : Fin 256) c, ∃ b : ℝ, w (ix2 (⟨512 + k.val, by omega⟩ : Fin 768) c) = (b : EReal)

theorem product_apply (x : Mat 4096 256) (w : Mat 768 160) (xr : Fin 4096 → Fin 256 → ℝ) (A : Fin 256 → Fin 160 → ℝ)
    (hx : ∀ p k, x (ix2 p k) = ((xr p k : ℝ) : EReal)) (hw : HoldsWeights A w) (p : Fin 4096) (c : Fin 160) :
    k1_pay3 (F := Ideal) x w (ix2 p c) = ((∑ k, xr p k * A k c : ℝ) : EReal) := by
  obtain ⟨t1, t2, t3⟩ := beside_three (d := 768) x x (subf (F := Ideal) (φ := .f32) x x)
    Facts₀.concatenates_S4096x256_S4096x256_S4096x256_S4096x768_d1 p
  have e : k1_pay3 (F := Ideal) x w = FloatOps.matmul (F := Ideal) (φ₁ := .f32) (φ₂ := .f32) (DotDims.plain 4096 768 160) none
      (concatenate S4096x768 1 [⟨S4096x256, x⟩, ⟨S4096x256, x⟩, ⟨S4096x256, subf (F := Ideal) (φ := .f32) x x⟩]
        Facts₀.concatenates_S4096x256_S4096x256_S4096x256_S4096x768_d1) (shapeCast S768x160 w Facts₀.shapeCasts_S768x160_S768x160)
      (constant S4096x160 .f32 0x00000000#32) := rfl
  rw [e, shapeCast_self, Ideal.matmul_plain_apply, Fin.sum_univ_add (a := 512) (b := 256), Fin.sum_univ_add (a := 256) (b := 256)]
  have s1 : ∀ k : Fin 256, (concatenate S4096x768 1 [⟨S4096x256, x⟩, ⟨S4096x256, x⟩, ⟨S4096x256, subf (F := Ideal) (φ := .f32) x x⟩]
        Facts₀.concatenates_S4096x256_S4096x256_S4096x256_S4096x768_d1) (ix2 p (Fin.castAdd 256 (Fin.castAdd 256 k)))
      * w (ix2 (Fin.castAdd 256 (Fin.castAdd 256 k)) c) = ((xr p k * A k c : ℝ) : EReal) := fun k => by
    rw [EReal.coe_mul]; exact congrArg₂ (· * ·) ((t1 k (by omega)).trans (hx p k)) (hw.top k c)
  have s2 : ∀ k : Fin 256, (concatenate S4096x768 1 [⟨S4096x256, x⟩, ⟨S4096x256, x⟩, ⟨S4096x256, subf (F := Ideal) (φ := .f32) x x⟩]
        Facts₀.concatenates_S4096x256_S4096x256_S4096x256_S4096x768_d1) (ix2 p (Fin.castAdd 256 (Fin.natAdd 256 k)))
      * w (ix2 (Fin.castAdd 256 (Fin.natAdd 256 k)) c) = ((0 : ℝ) : EReal) := fun k => by
    refine (congrArg₂ (· * ·) ((t2 k (by omega)).trans (hx p k)) (hw.mid k c)).trans ?_
    rw [← EReal.coe_mul, mul_zero]
  have s3 : ∀ k : Fin 256, (concatenate S4096x768 1 [⟨S4096x256, x⟩, ⟨S4096x256, x⟩, ⟨S4096x256, subf (F := Ideal) (φ := .f32) x x⟩]
        Facts₀.concatenates_S4096x256_S4096x256_S4096x256_S4096x768_d1) (ix2 p (Fin.natAdd 512 k))
      * w (ix2 (Fin.natAdd 512 k) c) = ((0 : ℝ) : EReal) := fun k => by
    obtain ⟨b, hb⟩ := hw.low k c
    have z : subf (F := Ideal) (φ := .f32) x x (ix2 p k) = ((0 : ℝ) : EReal) := by
      rw [subf_apply, hx, ← EReal.coe_sub, sub_self]
    refine (congrArg₂ (· * ·) ((t3 k (by omega)).trans z) hb).trans ?_
    rw [← EReal.coe_mul, zero_mul]
  rw [Finset.sum_congr rfl fun k _ => s1 k, Finset.sum_congr rfl fun k _ => s2 k, Finset.sum_congr rfl fun k _ => s3 k, coe_sum, coe_sum, constant_apply]
  show Ideal.ofBits .f32 0x00000000#32 + _ = _
  rw [ofBits_zero, ← EReal.coe_add, ← EReal.coe_add, ← EReal.coe_add, Finset.sum_const_zero, zero_add, add_zero, add_zero]

/-- The image rows go through the same operations. -/
theorem pay4_eq (x : Mat 4096 256) (w : Mat 768 160) : k1_pay4 (F := Ideal) x w = k1_pay3 (F := Ideal) x w := rfl

/-! ## The values and the lanes -/

/-- A layer's values: the first 128 columns and the bias. -/
theorem value_apply (x : Mat 4096 256) (w : Mat 768 160) (b : Mat 1 128) (xr : Fin 4096 → Fin 256 → ℝ) (A : Fin 256 → Fin 160 → ℝ) (br : Fin 128 → ℝ)
    (hx : ∀ p k, x (ix2 p k) = ((xr p k : ℝ) : EReal)) (hw : HoldsWeights A w) (hb : ∀ f, b (ix2 (0 : Fin 1) f) = ((br f : ℝ) : EReal))
    (p : Fin 4096) (f : Fin 128) :
    k1_pay5 (F := Ideal) x w b (ix2 p f) = ((∑ k, xr p k * A k ⟨f.val, by omega⟩ + br f : ℝ) : EReal) := by
  show extractStridedSlice S4096x128 ![0, 0] (k1_pay3 (F := Ideal) x w) Facts₀.slices_S4096x160_o0_0_S4096x128 (ix2 p f)
    + broadcastTo S4096x128 (shapeCast S1x128 b Facts₀.shapeCasts_S1x128_S1x128) Facts₀.broadcasts_S1x128_S4096x128 (ix2 p f) = _
  rw [shapeCast_self, row_down b _ (by decide), hb, columns_from 0 _ _ p f (by omega)]
  rw [product_apply x w xr A hx hw, ← EReal.coe_add]
  simp only [Nat.zero_add]

theorem pay6_eq (x : Mat 4096 256) (w : Mat 768 160) (b : Mat 1 128) : k1_pay6 (F := Ideal) x w b = k1_pay5 (F := Ideal) x w b := rfl

/-- The lanes' logits. -/
theorem logit_apply (x y : Mat 4096 256) (w v : Mat 768 160) (b : Mat 1 16) (xr yr : Fin 4096 → Fin 256 → ℝ) (A B : Fin 256 → Fin 160 → ℝ) (br : Fin 16 → ℝ)
    (hx : ∀ p k, x (ix2 p k) = ((xr p k : ℝ) : EReal)) (hy : ∀ p k, y (ix2 p k) = ((yr p k : ℝ) : EReal)) (hw : HoldsWeights A w) (hv : HoldsWeights B v)
    (hb : ∀ q, b (ix2 (0 : Fin 1) q) = ((br q : ℝ) : EReal)) (p : Fin 4096) (q : Fin 16) :
    k1_pay7 (F := Ideal) x y w v b (ix2 p q)
      = ((∑ k, xr p k * A k ⟨128 + q.val, by omega⟩ + ∑ k, yr p k * B k ⟨128 + q.val, by omega⟩ + br q : ℝ) : EReal) := by
  show extractStridedSlice S4096x16 ![0, 128] (k1_pay3 (F := Ideal) x w) Facts₀.slices_S4096x160_o0_128_S4096x16 (ix2 p q)
    + extractStridedSlice S4096x16 ![0, 128] (k1_pay4 (F := Ideal) y v) Facts₀.slices_S4096x160_o0_128_S4096x16 (ix2 p q)
    + broadcastTo S4096x16 (shapeCast S1x16 b Facts₀.shapeCasts_S1x16_S1x16) Facts₀.broadcasts_S1x16_S4096x16 (ix2 p q) = _
  rw [shapeCast_self, row_down b _ (by decide), hb, columns_from 128 _ _ p q (by omega), columns_from 128 _ _ p q (by omega), pay4_eq,
    product_apply x w xr A hx hw, product_apply y v yr B hy hv, ← EReal.coe_add, ← EReal.coe_add]

/-- The lanes' values before the bias. -/
theorem laneVal_apply (x y : Mat 4096 256) (w v : Mat 768 160) (xr yr : Fin 4096 → Fin 256 → ℝ) (A B : Fin 256 → Fin 160 → ℝ)
    (hx : ∀ p k, x (ix2 p k) = ((xr p k : ℝ) : EReal)) (hy : ∀ p k, y (ix2 p k) = ((yr p k : ℝ) : EReal)) (hw : HoldsWeights A w) (hv : HoldsWeights B v)
    (p : Fin 4096) (q : Fin 16) :
    k1_pay8 (F := Ideal) x y w v (ix2 p q) = ((∑ k, xr p k * A k ⟨144 + q.val, by omega⟩ + ∑ k, yr p k * B k ⟨144 + q.val, by omega⟩ : ℝ) : EReal) := by
  show extractStridedSlice S4096x16 ![0, 144] (k1_pay3 (F := Ideal) x w) Facts₀.slices_S4096x160_o0_144_S4096x16 (ix2 p q)
    + extractStridedSlice S4096x16 ![0, 144] (k1_pay4 (F := Ideal) y v) Facts₀.slices_S4096x160_o0_144_S4096x16 (ix2 p q) = _
  rw [columns_from 144 _ _ p q (by omega), columns_from 144 _ _ p q (by omega), pay4_eq,
    product_apply x w xr A hx hw, product_apply y v yr B hy hv, ← EReal.coe_add]

theorem laneBias_apply (b : Mat 1 16) (p : Fin 4096) (q : Fin 16) : k1_pay9 (F := Ideal) b (ix2 p q) = b (ix2 (0 : Fin 1) q) := by
  show broadcastTo S4096x16 (shapeCast S1x16 b Facts₀.shapeCasts_S1x16_S1x16) Facts₀.broadcasts_S1x16_S4096x16 (ix2 p q) = _
  rw [shapeCast_self, row_down b _ (by decide)]

/-- Whether a lane's number is at least 8, or at least 12, as the bit the block selects on. -/
theorem lane_ge8 : ∀ q : Fin 16, IntOp.cmpi .sge (BitVec.ofNat 32 q.val) 8#32 = if 8 ≤ q.val then 1#1 else 0#1 := by decide
theorem lane_ge12 : ∀ q : Fin 16, IntOp.cmpi .sge (BitVec.ofNat 32 q.val) 12#32 = if 12 ≤ q.val then 1#1 else 0#1 := by decide

/-- The mask of the lanes from a number on, repeated down the rows. -/
theorem mask_apply (n : BitVec 32) (p : Fin 4096) (q : Fin 16) :
    broadcastTo S4096x16 (shapeCast S1x16 (cmpi .sge (iota .tc S1x16 32 [1] Facts₀.iota_S1x16_d1_w32) (broadcast S1x16 n)) Facts₀.shapeCasts_S1x16_S1x16)
      Facts₀.broadcasts_S1x16_S4096x16 (ix2 p q) = IntOp.cmpi .sge (BitVec.ofNat 32 q.val) n := by
  rw [shapeCast_self, row_down _ _ (by decide)]
  show IntOp.cmpi .sge (iota .tc S1x16 32 [1] Facts₀.iota_S1x16_d1_w32 (ix2 0 q)) n = _
  rw [iota_single_apply]

/-- A lane from its logit and its value: the logit's score, squared from lane 8 on, one from lane 12 on, times the value. -/
theorem lane_apply (z a b : Mat 4096 16) (L V : Fin 4096 → Fin 16 → ℝ) (hz : ∀ p q, z (ix2 p q) = ((L p q : ℝ) : EReal))
    (hv : ∀ p q, a (ix2 p q) + b (ix2 p q) = ((V p q : ℝ) : EReal)) (q : Fin 16) (p : Fin 4096) :
    k1_pay10 (F := Ideal) z a b (ix2 q p)
      = (((if 12 ≤ q.val then 1 else if 8 ≤ q.val then (1 / (1 + Real.exp (-L p q))) * (1 / (1 + Real.exp (-L p q))) else 1 / (1 + Real.exp (-L p q)))
          * V p q : ℝ) : EReal) := by
  have s : Ideal.div (Ideal.ofBits .f32 0x3F800000#32) (Ideal.ofBits .f32 0x3F800000#32 + Ideal.exp (Ideal.ofBits .f32 0x00000000#32 - z (ix2 p q)))
      = ((1 / (1 + Real.exp (-L p q)) : ℝ) : EReal) := by
    rw [ofBits_one, ofBits_zero, hz, ← EReal.coe_sub, zero_sub, coe_sigmoid]
  unfold k1_pay10
  rw [transpose_apply _ _ _ _ (ix2 p q) (fun b => by match b with | ⟨0, _⟩ => rfl | ⟨1, _⟩ => rfl)]
  rw [mulf_apply, select_apply, mask_apply, select_apply, mask_apply, mulf_apply, lane_ge12, lane_ge8]
  show Scalar.select _ (Ideal.ofBits .f32 0x3F800000#32)
      (Scalar.select _ (Ideal.div (Ideal.ofBits .f32 0x3F800000#32) (Ideal.ofBits .f32 0x3F800000#32 + Ideal.exp (Ideal.ofBits .f32 0x00000000#32 - z (ix2 p q)))
        * Ideal.div (Ideal.ofBits .f32 0x3F800000#32) (Ideal.ofBits .f32 0x3F800000#32 + Ideal.exp (Ideal.ofBits .f32 0x00000000#32 - z (ix2 p q))))
        (Ideal.div (Ideal.ofBits .f32 0x3F800000#32) (Ideal.ofBits .f32 0x3F800000#32 + Ideal.exp (Ideal.ofBits .f32 0x00000000#32 - z (ix2 p q)))))
      * (a (ix2 p q) + b (ix2 p q)) = _
  rw [s, hv, ofBits_one]
  by_cases h12 : 12 ≤ q.val
  · simp only [if_pos h12, select_one, ← EReal.coe_mul]
  · by_cases h8 : 8 ≤ q.val
    · simp only [if_neg h12, if_pos h8, select_one, select_zero, ← EReal.coe_mul]
    · simp only [if_neg h12, if_neg h8, select_zero, ← EReal.coe_mul]

/-! ## The counts -/

/-- A value's gate, as the block selects it. -/
theorem gate_apply (v : ℝ) : Scalar.select (Ideal.cmp .ogt ((v : ℝ) : EReal) (Ideal.ofBits .f32 0x3F333333#32)) (Ideal.ofBits .f32 0x3F800000#32)
    (Ideal.ofBits .f32 0x00000000#32) = ((gate v : ℝ) : EReal) := by
  rw [ofBits_thr, cmp_thr, ofBits_one, ofBits_zero]
  unfold gate
  by_cases h : thr < v
  · rw [if_pos h, if_pos h, select_one]
  · rw [if_neg h, if_neg h, select_zero]

/-- The gates of the two value layers and a column of ones, side by side. -/
theorem gates_apply (t u : Mat 4096 128) (T U : Fin 4096 → Fin 128 → ℝ) (ht : ∀ p f, t (ix2 p f) = ((T p f : ℝ) : EReal))
    (hu : ∀ p f, u (ix2 p f) = ((U p f : ℝ) : EReal)) (p : Fin 4096) (f : Fin 128) :
    k1_pay11 (F := Ideal) t u (ix2 p (⟨f.val, by omega⟩ : Fin 384)) = ((gate (T p f) : ℝ) : EReal)
      ∧ k1_pay11 (F := Ideal) t u (ix2 p (⟨128 + f.val, by omega⟩ : Fin 384)) = ((gate (U p f) : ℝ) : EReal)
      ∧ k1_pay11 (F := Ideal) t u (ix2 p (⟨256 + f.val, by omega⟩ : Fin 384)) = ((1 : ℝ) : EReal) := by
  unfold k1_pay11
  refine ⟨?_, ?_, ?_⟩
  · refine ((beside_three (d := 384) _ _ _ Facts₀.concatenates_S4096x128_S4096x128_S4096x128_S4096x384_d1 p).1 f _).trans ?_
    refine Eq.trans ?_ (gate_apply (T p f))
    rw [← ht]; rfl
  · refine ((beside_three (d := 384) _ _ _ Facts₀.concatenates_S4096x128_S4096x128_S4096x128_S4096x384_d1 p).2.1 f _).trans ?_
    refine Eq.trans ?_ (gate_apply (U p f))
    rw [← hu]; rfl
  · refine ((beside_three (d := 384) _ _ _ Facts₀.concatenates_S4096x128_S4096x128_S4096x128_S4096x384_d1 p).2.2 f _).trans ?_
    exact ofBits_one

/-- The two rows the gates are summed against: ones, and the labels. -/
theorem sides_apply (l : (⟨3, ![1, 1, 4096]⟩ : Shape).Idx → EReal) (p : Fin 4096) :
    k1_pay12 (F := Ideal) l (ix2 (0 : Fin 2) p) = ((1 : ℝ) : EReal) ∧ k1_pay12 (F := Ideal) l (ix2 (1 : Fin 2) p) = l (ix3 (0 : Fin 1) (0 : Fin 1) p) := by
  unfold k1_pay12
  constructor
  · rw [concatenate_pair_apply_left (s₁ := S1x4096) (s₂ := S1x4096) (0 : Fin S2x4096.rank) _ _ _ _ rfl (ix2 (0 : Fin 1) p)
      (fun d => by match d with | ⟨0, _⟩ => rfl | ⟨1, _⟩ => rfl)]
    exact ofBits_one
  · rw [concatenate_pair_apply_right (s₁ := S1x4096) (s₂ := S1x4096) (0 : Fin S2x4096.rank) _ _ _ _ rfl rfl (ix2 (0 : Fin 1) p)
      (fun d hd => by match d with | ⟨0, _⟩ => exact absurd rfl hd | ⟨1, _⟩ => rfl) rfl]
    exact (shapeCast_dropUnit_apply (![1, 4096]) l _ (ix2 (0 : Fin 1) p)).trans (congrArg l (eq_ix3 _))

/-- A block's counts. -/
theorem counts_apply (g : Mat 4096 384) (l : Mat 2 4096) (a : Fin 2) (j : Fin 384) (G L : Fin 4096 → ℝ)
    (hg : ∀ p, g (ix2 p j) = ((G p : ℝ) : EReal)) (hl : ∀ p, l (ix2 a p) = ((L p : ℝ) : EReal)) :
    k1_pay1 (F := Ideal) g l (ix2 a j) = ((∑ p, L p * G p : ℝ) : EReal) :=
  matmul_coe (M := 2) (K := 4096) (N := 384) none l g _ a j L G hl hg (ofBits_zero.trans EReal.coe_zero)

/-- Added to what was there. -/
theorem counts_add (g : Mat 4096 384) (l : Mat 2 4096) (v : Mat 2 384) (a : Fin 2) (j : Fin 384) :
    k1_pay2 (F := Ideal) g l v (ix2 a j) = v (ix2 a j) + k1_pay1 (F := Ideal) g l (ix2 a j) := by
  unfold k1_pay2
  rw [shapeCast_self]; rfl

end Cert.KernelIdeal.Value
-- ==== Proof.KernelIdeal.Folding.lean ====
/-
  What the host folds before the passes: the attention and output weights through the constant tables, the layers through those, and the stacked
  weights and the biases that the first pass multiplies by. Each is a function of the arrays it is made of.
-/
module

public import proofs.«01_k».proof.Proof.Gen.KernelIdeal.Launch
public import proofs.«01_k».proof.Proof.KernelIdeal.Block
public import Idealize.ShloMosaic.Lib.IdealHost

@[expose] public section

noncomputable section

open Idealize.ShloMosaic Idealize.ShloMosaic.ValueIdx Fusion Fusion.Data
open scoped BigOperators

namespace Cert.KernelIdeal.Value

open Cert.KernelIdeal Cert.KernelIdeal.Gen

/-! ## A vector repeated, over any extents -/

theorem across {α : Type} {m n : ℕ} (h1 : (⟨1, ![m]⟩ : Shape).BroadcastsInDim ⟨2, ![m, 1]⟩ ![0])
    (h2 : (⟨2, ![m, 1]⟩ : Shape).BroadcastsInDim ⟨2, ![m, n]⟩ ![0, 1]) (hm : m ≠ 1) (x : (⟨1, ![m]⟩ : Shape).Idx → α) (i : Fin m) (j : Fin n) :
    broadcastInDim ⟨2, ![m, n]⟩ ![0, 1] h2 (broadcastInDim ⟨2, ![m, 1]⟩ ![0] h1 x) (ix2 i j) = x (ix1 i) :=
  (broadcastInDim_apply _ h2 _ _ (ix2 i (0 : Fin 1)) fun a => by
    match a with
    | ⟨0, _⟩ => exact (if_neg hm).symm
    | ⟨1, _⟩ => rfl).trans
  (broadcastInDim_apply _ h1 _ _ _ fun a => by
    match a with
    | ⟨0, _⟩ => exact (if_neg hm).symm)

theorem as_row {α : Type} {n : ℕ} (h : (⟨1, ![n]⟩ : Shape).BroadcastsInDim ⟨2, ![1, n]⟩ ![1]) (hn : n ≠ 1) (x : (⟨1, ![n]⟩ : Shape).Idx → α)
    (j : Fin n) : broadcastInDim ⟨2, ![1, n]⟩ ![1] h x (ix2 (0 : Fin 1) j) = x (ix1 j) :=
  broadcastInDim_apply _ h _ _ _ fun a => by
    match a with
    | ⟨0, _⟩ => exact (if_neg hn).symm

theorem rows_of {α : Type} {m n : ℕ} (h : (⟨2, ![1, n]⟩ : Shape).BroadcastsInDim ⟨2, ![m, n]⟩ ![0, 1]) (hn : n ≠ 1)
    (x : (⟨2, ![1, n]⟩ : Shape).Idx → α) (i : Fin m) (j : Fin n) :
    broadcastInDim ⟨2, ![m, n]⟩ ![0, 1] h x (ix2 i j) = x (ix2 (0 : Fin 1) j) :=
  broadcastInDim_apply _ h _ _ _ fun a => by
    match a with
    | ⟨0, _⟩ => rfl
    | ⟨1, _⟩ => exact (if_neg hn).symm

theorem turned {α : Type} {m n : ℕ} (h : (⟨2, ![m, n]⟩ : Shape).Transposes [1, 0] ⟨2, ![n, m]⟩) (x : (⟨2, ![m, n]⟩ : Shape).Idx → α) (i : Fin n) (j : Fin m) :
    transpose ⟨2, ![n, m]⟩ [1, 0] x h (ix2 i j) = x (ix2 j i) :=
  transpose_apply _ x h _ _ fun b => by match b with | ⟨0, _⟩ => rfl | ⟨1, _⟩ => rfl

/-! ## The constant tables -/

def tableRep : Mat 128 16 := fun i => FloatOps.ofBits (F := Ideal) .f32 (lit0 (S128x16.rowMajor i))
def tableGrp0 : Mat 128 16 := fun i => FloatOps.ofBits (F := Ideal) .f32 (lit1 (S128x16.rowMajor i))
def tableGrp12 : Mat 128 16 := fun i => FloatOps.ofBits (F := Ideal) .f32 (lit2 (S128x16.rowMajor i))
def tableLane (l : Fin 16 → BitVec 32) : Vect 16 := fun i => FloatOps.ofBits (F := Ideal) .f32 (l (S16.rowMajor i))

theorem pos_table (f : Fin 128) (q : Fin 16) : S128x16.rowMajor (ix2 f q) = (⟨f.val * 16 + q.val, by omega⟩ : Fin 2048) :=
  Fin.ext (Shape.rowMajor_val_two _)

theorem coe_bit (p : Prop) [Decidable p] :
    FloatOps.ofBits (F := Ideal) .f32 (if p then 0x3F800000#32 else 0x00000000#32) = (((if p then 1 else 0 : ℝ)) : EReal) := by
  split
  · exact ofBits_one
  · exact ofBits_zero

theorem bits_rep : ∀ (f : Fin 128) (q : Fin 16),
    lit0 ⟨f.val * 16 + q.val, by omega⟩ = if q.val < 12 ∧ f.val / 32 = q.val % 4 then 0x3F800000#32 else 0x00000000#32 := by decide +kernel
theorem bits_grp0 : ∀ (f : Fin 128) (q : Fin 16),
    lit1 ⟨f.val * 16 + q.val, by omega⟩ = if q.val < 4 ∧ f.val / 32 = q.val % 4 then 0x3F800000#32 else 0x00000000#32 := by decide +kernel
theorem bits_grp12 : ∀ (f : Fin 128) (q : Fin 16),
    lit2 ⟨f.val * 16 + q.val, by omega⟩ = if (4 ≤ q.val ∧ q.val < 12) ∧ f.val / 32 = q.val % 4 then 0x3F800000#32 else 0x00000000#32 := by
  decide +kernel
theorem bits_lane : ∀ q : Fin 16, (lit3 q = if q.val = 12 then 0x3F800000#32 else 0x00000000#32)
    ∧ (lit4 q = if q.val = 12 then 0x3F800000#32 else 0x00000000#32) ∧ (lit5 q = if q.val = 12 then 0x3F800000#32 else 0x00000000#32) := by
  decide +kernel

theorem tableRep_apply (f : Fin 128) (q : Fin 16) : tableRep (ix2 f q) = ((rep3 f q : ℝ) : EReal) := by
  unfold tableRep rep3
  rw [pos_table, bits_rep, coe_bit]

theorem tableGrp0_apply (f : Fin 128) (q : Fin 16) : tableGrp0 (ix2 f q) = ((grp0 f q : ℝ) : EReal) := by
  unfold tableGrp0 grp0
  rw [pos_table, bits_grp0, coe_bit]

theorem tableGrp12_apply (f : Fin 128) (q : Fin 16) : tableGrp12 (ix2 f q) = ((grp12 f q : ℝ) : EReal) := by
  unfold tableGrp12 grp12
  rw [pos_table, bits_grp12, coe_bit]

theorem tableLane_apply (l : Fin 16 → BitVec 32) (hl : ∀ q : Fin 16, l q = if q.val = 12 then 0x3F800000#32 else 0x00000000#32) (q : Fin 16) :
    tableLane l (ix1 q) = ((lane12 q : ℝ) : EReal) := by
  unfold tableLane lane12
  rw [show S16.rowMajor (ix1 q) = q from Fin.ext (Shape.rowMajor_val_one _), hl, coe_bit]

/-! ## The attention and output weights through the tables -/

/-- A vector down the rows, times a table. -/
def scaled (x : Vect 128) (t : Mat 128 16) : Mat 128 16 :=
  mulf (F := Ideal) (φ := .f32) (broadcastInDim S128x16 ![0, 1] bcast_S128x1_S128x16_0_1 (broadcastInDim S128x1 ![0] bcast_S128_S128x1_0 x)) t

theorem scaled_apply (x : Vect 128) (t : Mat 128 16) (f : Fin 128) (q : Fin 16) (a b : ℝ) (hx : x (ix1 f) = (a : EReal)) (ht : t (ix2 f q) = (b : EReal)) :
    scaled x t (ix2 f q) = ((a * b : ℝ) : EReal) := by
  unfold scaled
  rw [mulf_apply, across _ _ (by decide), hx, ht, EReal.coe_mul]

/-- The one-lane table as a row, and repeated. -/
def laneRow (l : Fin 16 → BitVec 32) : Mat 1 16 := broadcastInDim S1x16 ![1] bcast_S16_S1x16_1 (tableLane l)
def laneRows (l : Fin 16 → BitVec 32) : Mat 128 16 := broadcastInDim S128x16 ![0, 1] bcast_S1x16_S128x16_0_1 (laneRow l)

theorem laneRow_apply (l : Fin 16 → BitVec 32) (hl : ∀ q : Fin 16, l q = if q.val = 12 then 0x3F800000#32 else 0x00000000#32) (q : Fin 16) :
    laneRow l (ix2 (0 : Fin 1) q) = ((lane12 q : ℝ) : EReal) :=
  (as_row _ (by decide) _ _).trans (tableLane_apply l hl q)

theorem laneRows_apply (l : Fin 16 → BitVec 32) (hl : ∀ q : Fin 16, l q = if q.val = 12 then 0x3F800000#32 else 0x00000000#32) (f : Fin 128) (q : Fin 16) :
    laneRows l (ix2 f q) = ((lane12 q : ℝ) : EReal) :=
  (rows_of _ (by decide) _ _ _).trans (laneRow_apply l hl q)

/-- The two halves of the attention weights and the three parts of the output weights, as vectors. -/
def attQ (a : Mat 4 64) : Vect 128 := shapeCast S128 (extractStridedSlice S4x32 ![0, 0] a slices_S4x64_S4x32_0_0) shapeCasts_S4x32_S128
def attK (a : Mat 4 64) : Vect 128 := shapeCast S128 (extractStridedSlice S4x32 ![0, 32] a slices_S4x64_S4x32_0_32) shapeCasts_S4x32_S128
def outF (w : Mat 1 384) : Vect 128 := shapeCast S128 (extractStridedSlice S1x128 ![0, 0] w slices_S1x384_S1x128_0_0) shapeCasts_S1x128_S128
def outT (w : Mat 1 384) : Vect 128 := shapeCast S128 (extractStridedSlice S1x128 ![0, 128] w slices_S1x384_S1x128_0_128) shapeCasts_S1x128_S128
def outI (w : Mat 1 384) : Vect 128 := shapeCast S128 (extractStridedSlice S1x128 ![0, 256] w slices_S1x384_S1x128_0_256) shapeCasts_S1x128_S128

theorem heads_flat (x : Mat 4 32) (h : S4x32.ShapeCasts S128) (f : Fin 128) :
    shapeCast S128 x h (ix1 f) = x (ix2 (hd f) (⟨f.val % 32, by omega⟩ : Fin 32)) :=
  shapeCast_apply x h _ _ (by
    rw [Shape.rowMajor_val_two, Shape.rowMajor_val_one]
    show f.val / 32 * 32 + f.val % 32 = f.val
    omega)

theorem row_flat (x : Mat 1 128) (h : S1x128.ShapeCasts S128) (f : Fin 128) : shapeCast S128 x h (ix1 f) = x (ix2 (0 : Fin 1) f) :=
  shapeCast_apply x h _ _ (by
    rw [Shape.rowMajor_val_two, Shape.rowMajor_val_one]
    show 0 * 128 + f.val = f.val
    omega)

variable {D : Data}

section Maps

variable {a15 : Mat 4 64} {a17 : Mat 1 384} (haw : ∀ h k, a15 (ix2 h k) = ((D.aw h k : ℝ) : EReal))
  (hwo : ∀ k, a17 (ix2 (0 : Fin 1) k) = ((D.wo k : ℝ) : EReal))

include haw in
theorem mlogQ_apply (f : Fin 128) (q : Fin 16) : scaled (attQ a15) tableRep (ix2 f q) = ((D.mlogQ f q : ℝ) : EReal) := by
  refine scaled_apply _ _ f q _ _ ((heads_flat _ _ f).trans ((columns_from 0 a15 _ _ _ (by show 0 + f.val % 32 < 64; omega)).trans ((haw _ _).trans ?_)))
    (tableRep_apply f q)
  exact congrArg (fun k => ((D.aw (hd f) k : ℝ) : EReal)) (Fin.ext (Nat.zero_add _))

include haw in
theorem mlogK_apply (f : Fin 128) (q : Fin 16) : scaled (attK a15) tableRep (ix2 f q) = ((D.mlogK f q : ℝ) : EReal) :=
  scaled_apply _ _ f q _ _ ((heads_flat _ _ f).trans ((columns_from 32 a15 _ _ _ (by show 32 + f.val % 32 < 64; omega)).trans (haw _ _)))
    (tableRep_apply f q)

include hwo in
theorem outF_apply (f : Fin 128) : outF a17 (ix1 f) = ((D.wo ⟨f.val, by omega⟩ : ℝ) : EReal) := by
  refine (row_flat _ _ f).trans ((columns_from 0 a17 _ _ _ (by omega)).trans ((hwo _).trans ?_))
  exact congrArg (fun k => ((D.wo k : ℝ) : EReal)) (Fin.ext (Nat.zero_add _))

include hwo in
theorem maT_apply (f : Fin 128) (q : Fin 16) : scaled (outF a17) tableGrp0 (ix2 f q) = ((D.maT f q : ℝ) : EReal) :=
  scaled_apply _ _ f q _ _ (outF_apply hwo f) (tableGrp0_apply f q)

include hwo in
theorem maI_apply (f : Fin 128) (q : Fin 16) : scaled (outF a17) tableGrp12 (ix2 f q) = ((D.maI f q : ℝ) : EReal) :=
  scaled_apply _ _ f q _ _ (outF_apply hwo f) (tableGrp12_apply f q)

include hwo in
theorem mpT_apply (f : Fin 128) (q : Fin 16) : scaled (outT a17) (laneRows lit3) (ix2 f q) = ((D.mpT f q : ℝ) : EReal) :=
  scaled_apply _ _ f q _ _ ((row_flat _ _ f).trans ((columns_from 128 a17 _ _ _ (by omega)).trans (hwo _)))
    (laneRows_apply _ (fun q => (bits_lane q).1) f q)

include hwo in
theorem mpI_apply (f : Fin 128) (q : Fin 16) : scaled (outI a17) (laneRows lit4) (ix2 f q) = ((D.mpI f q : ℝ) : EReal) :=
  scaled_apply _ _ f q _ _ ((row_flat _ _ f).trans ((columns_from 256 a17 _ _ _ (by omega)).trans (hwo _)))
    (laneRows_apply _ (fun q => (bits_lane q).2.1) f q)

end Maps

/-! ## A layer through a map -/

/-- A layer's weights, features along the columns. -/
def columns (w : Mat 128 256) : Mat 256 128 := transpose S256x128 [1, 0] w transposes_S128x256_S256x128_1_0

theorem columns_apply (w : Mat 128 256) (k : Fin 256) (f : Fin 128) : columns w (ix2 k f) = w (ix2 f k) := turned _ w k f

def through (w : Mat 128 256) (M : Mat 128 16) : Mat 256 16 :=
  Host.dotGeneral (F := Ideal) (φ₁ := .f32) (φ₂ := .f32) dot_S256x128_S128x16_S256x16_1_0_0_1_n_n (some .fp32) (columns w) M

theorem through_apply {wr : Fin 128 → Fin 256 → ℝ} {br : Fin 128 → ℝ} {w : Mat 128 256} {b : Vect 128} (h : HoldsLayer wr br w b) (M : Mat 128 16)
    (k : Fin 256) (q : Fin 16) (m : Fin 128 → ℝ) (hM : ∀ f, M (ix2 f q) = ((m f : ℝ) : EReal)) :
    through w M (ix2 k q) = ((∑ f, wr f k * m f : ℝ) : EReal) :=
  dot_coe (M := 256) (K := 128) (N := 16) (some .fp32) (columns w) M k q (fun f => wr f k) m (fun f => (columns_apply w k f).trans (h.w f k)) hM

def biasThrough (b : Vect 128) (M : Mat 128 16) : Mat 1 16 :=
  Host.dotGeneral (F := Ideal) (φ₁ := .f32) (φ₂ := .f32) dot_S1x128_S128x16_S1x16_1_0_0_1_n_n (some .fp32) (broadcastInDim S1x128 ![1] bcast_S128_S1x128_1 b) M

theorem biasThrough_apply {wr : Fin 128 → Fin 256 → ℝ} {br : Fin 128 → ℝ} {w : Mat 128 256} {b : Vect 128} (h : HoldsLayer wr br w b) (M : Mat 128 16)
    (q : Fin 16) (m : Fin 128 → ℝ) (hM : ∀ f, M (ix2 f q) = ((m f : ℝ) : EReal)) :
    biasThrough b M (ix2 (0 : Fin 1) q) = ((∑ f, br f * m f : ℝ) : EReal) :=
  dot_coe (M := 1) (K := 128) (N := 16) (some .fp32) _ M 0 q br m (fun f => (as_row _ (by decide) b f).trans (h.b f)) hM

/-! ## The stacked weights -/

/-- Logit lanes beside value lanes. -/
def lanes (x y : Mat 256 16) : Mat 256 32 :=
  concatenate S256x32 1 [⟨S256x16, x⟩, ⟨S256x16, y⟩] concatenates_S256x16_S256x16_S256x32_d1

def besides (x : Mat 256 128) (y : Mat 256 32) : Mat 256 160 :=
  concatenate S256x160 1 [⟨S256x128, x⟩, ⟨S256x32, y⟩] concatenates_S256x128_S256x32_S256x160_d1

def zeros : Mat 256 32 := broadcastInDim S256x32 ![] bcast_S_S256x32 (constant (F := Ideal) S_ .f32 0x00000000#32)

/-- The rounded weights beside the lanes, over what rounding leaves and the rounded weights again, each beside zeros. -/
def stacked (hi : Mat 256 128) (w : Mat 128 256) (y : Mat 256 32) : Mat 768 160 :=
  concatenate S768x160 0 [⟨S256x160, besides hi y⟩, ⟨S256x160, besides (subf (F := Ideal) (φ := .f32) (columns w) hi) zeros⟩, ⟨S256x160, besides hi zeros⟩]
    concatenates_S256x160_S256x160_S256x160_S768x160_d0

theorem zeros_apply (k : Fin 256) (j : Fin 32) : zeros (ix2 k j) = ((0 : ℝ) : EReal) := (broadcastInDim_scalar_apply _ _ _).trans ofBits_zero

theorem besides_apply (x : Mat 256 128) (y : Mat 256 32) (k : Fin 256) (c : Fin 160) :
    besides x y (ix2 k c) = if h : c.val < 128 then x (ix2 k ⟨c.val, h⟩) else y (ix2 k ⟨c.val - 128, by omega⟩) := by
  split
  · next h => exact beside_left x y _ k ⟨c.val, h⟩ c.isLt
  · next h =>
    have e : c = ⟨128 + (c.val - 128), by omega⟩ := Fin.ext (by show c.val = 128 + (c.val - 128); omega)
    exact (congrArg (fun c => besides x y (ix2 k c)) e).trans (beside_right x y _ k ⟨c.val - 128, by omega⟩ _)

/-- The weights that the first pass multiplies a row by: a value layer's, then the logit lanes', then the value lanes'. -/
def allWeights (w : Fin 128 → Fin 256 → ℝ) (l a : Fin 256 → Fin 16 → ℝ) (k : Fin 256) (c : Fin 160) : ℝ :=
  if h : c.val < 128 then w ⟨c.val, h⟩ k else if h2 : c.val < 144 then l k ⟨c.val - 128, by omega⟩ else a k ⟨c.val - 144, by omega⟩

theorem lanes_apply (x y : Mat 256 16) (l a : Fin 256 → Fin 16 → ℝ) (hx : ∀ k q, x (ix2 k q) = ((l k q : ℝ) : EReal))
    (hy : ∀ k q, y (ix2 k q) = ((a k q : ℝ) : EReal)) (k : Fin 256) (j : Fin 32) :
    lanes x y (ix2 k j) = (((if h : j.val < 16 then l k ⟨j.val, h⟩ else a k ⟨j.val - 16, by omega⟩ : ℝ)) : EReal) := by
  split
  · next h => exact (beside_left x y _ k ⟨j.val, h⟩ j.isLt).trans (hx _ _)
  · next h =>
    have e : j = ⟨16 + (j.val - 16), by omega⟩ := Fin.ext (by show j.val = 16 + (j.val - 16); omega)
    exact (congrArg (fun j => lanes x y (ix2 k j)) e).trans ((beside_right x y _ k ⟨j.val - 16, by omega⟩ _).trans (hy _ _))

theorem stacked_holds (hi : Mat 256 128) (w : Mat 128 256) (x y : Mat 256 16) (wr : Fin 128 → Fin 256 → ℝ) (l a : Fin 256 → Fin 16 → ℝ)
    (hw : ∀ f k, w (ix2 f k) = ((wr f k : ℝ) : EReal)) (hhi : hi = columns w) (hx : ∀ k q, x (ix2 k q) = ((l k q : ℝ) : EReal))
    (hy : ∀ k q, y (ix2 k q) = ((a k q : ℝ) : EReal)) : HoldsWeights (allWeights wr l a) (stacked hi w (lanes x y)) := by
  subst hhi
  have hc : ∀ k f, columns w (ix2 k f) = ((wr f k : ℝ) : EReal) := fun k f => (columns_apply w k f).trans (hw f k)
  have three := fun c => above_three (d := 768) (besides (columns w) (lanes x y))
    (besides (subf (F := Ideal) (φ := .f32) (columns w) (columns w)) zeros) (besides (columns w) zeros)
    concatenates_S256x160_S256x160_S256x160_S768x160_d0 c
  refine ⟨fun k c => ((three c).1 k _).trans ?_, fun k c => ((three c).2.1 k _).trans ?_, fun k c => ?_⟩
  · rw [besides_apply]
    unfold allWeights
    split
    · exact hc _ _
    · next h =>
      rw [lanes_apply x y l a hx hy]
      refine congrArg (fun r : ℝ => (r : EReal)) ?_
      by_cases h2 : c.val < 144
      · rw [dif_pos h2, dif_pos (show c.val - 128 < 16 by omega)]
      · rw [dif_neg h2, dif_neg (show ¬ c.val - 128 < 16 by omega)]
        exact congrArg (a k) (Fin.ext (by show c.val - 128 - 16 = c.val - 144; omega))
  · rw [besides_apply]
    split
    · rw [subf_apply, hc, ← EReal.coe_sub, sub_self]
    · exact zeros_apply _ _
  · refine ⟨if h : c.val < 128 then wr ⟨c.val, h⟩ k else 0, ((three c).2.2 k _).trans ?_⟩
    rw [besides_apply]
    split
    · exact hc _ _
    · exact zeros_apply _ _

/-! ## The biases -/

def zeros4 : Vect 4 := broadcastInDim S4 ![] bcast_S_S4 (constant (F := Ideal) S_ .f32 0x00000000#32)

/-- The attention biases three times, then zeros. -/
def biasRep (a : Vect 4) : Vect 16 :=
  concatenate S16 0 [⟨S4, a⟩, ⟨S4, a⟩, ⟨S4, a⟩, ⟨S4, zeros4⟩] concatenates_S4_S4_S4_S4_S16_d0

theorem biasRep_at (a : Vect 4) (x : Vect 4) (n : ℕ) (hn : n < 4) (j : Fin 4) (q : Fin 16) (hq : 4 * n + j.val = q.val)
    (hx : ([⟨S4, a⟩, ⟨S4, a⟩, ⟨S4, a⟩, ⟨S4, zeros4⟩] : List ((s : Shape) × (s.Idx → EReal)))[n] = ⟨S4, x⟩)
    (hpre : (((([⟨S4, a⟩, ⟨S4, a⟩, ⟨S4, a⟩, ⟨S4, zeros4⟩] : List ((s : Shape) × (s.Idx → EReal))).take n).map (fun p => p.1)).map
      fun s => if h : s.rank = S16.rank then s.size ((0 : Fin S16.rank).cast h.symm) else 0).sum = 4 * n) :
    biasRep a (ix1 q) = x (ix1 j) :=
  concatenate_apply_piece (0 : Fin S16.rank) [⟨S4, a⟩, ⟨S4, a⟩, ⟨S4, a⟩, ⟨S4, zeros4⟩] _ _ n hn S4 x hx rfl (4 * n) hpre (ix1 j)
    (fun b hb => by match b with | ⟨0, _⟩ => exact absurd rfl hb) hq

theorem biasRep_apply (a : Vect 4) (ha : ∀ h, a (ix1 h) = ((D.ab h : ℝ) : EReal)) (q : Fin 16) : biasRep a (ix1 q) = ((D.abRep q : ℝ) : EReal) := by
  have hz : ∀ j, zeros4 (ix1 j) = ((0 : ℝ) : EReal) := fun j => (broadcastInDim_scalar_apply _ _ _).trans ofBits_zero
  have hq : q.val / 4 = 0 ∨ q.val / 4 = 1 ∨ q.val / 4 = 2 ∨ q.val / 4 = 3 := by omega
  have at' : ∀ n, q.val / 4 = n → 4 * n + (⟨q.val % 4, by omega⟩ : Fin 4).val = q.val := fun n h => by show 4 * n + q.val % 4 = q.val; omega
  have lo : q.val < 12 → ((D.ab ⟨q.val % 4, by omega⟩ : ℝ) : EReal) = ((D.abRep q : ℝ) : EReal) := fun h => by unfold Data.abRep; rw [if_pos h]
  rcases hq with h | h | h | h
  · exact (biasRep_at a a 0 (by omega) _ q (at' _ h) rfl rfl).trans ((ha _).trans (lo (by omega)))
  · exact (biasRep_at a a 1 (by omega) _ q (at' _ h) rfl rfl).trans ((ha _).trans (lo (by omega)))
  · exact (biasRep_at a a 2 (by omega) _ q (at' _ h) rfl rfl).trans ((ha _).trans (lo (by omega)))
  · refine (biasRep_at a zeros4 3 (by omega) _ q (at' _ h) rfl rfl).trans ((hz _).trans ?_)
    unfold Data.abRep
    rw [if_neg (by omega)]

end Cert.KernelIdeal.Value
-- ==== Proof.KernelIdeal.Lanes.lean ====
/-
  What the first pass leaves in its two arrays: each row's sixteen lanes, and the counts of gated rows summed block after block.
-/
module

public import proofs.«01_k».proof.Proof.KernelIdeal.Rows
public import proofs.«01_k».proof.Proof.KernelIdeal.Block
public import proofs.«01_k».proof.Proof.KernelIdeal.Folding

@[expose] public section

set_option maxRecDepth 16384

open Idealize.ShloMosaic Idealize.ShloMosaic.TcCoe Idealize.ShloMosaic.ValueIdx Fusion
open Idealize.ShloMosaic.Pipeline (Dat Cfg Window)
open scoped BigOperators

namespace Cert.KernelIdeal.Value

open Cert.KernelIdeal Cert.KernelIdeal.Gen Cert.KernelIdeal.Run

variable (V : (c : Dev nD) → (b : Ref sig .tc) → Buf (Elt Ideal) ((c : Thread nD τ).loc b)) (c : Dev nD)

/-- What the first pass finds: the inputs, the labels in blocks, the two layers' weights beside the folded ones, and the biases. -/
structure Found (D : Data) : Prop where
  xt : ∀ r k, V c main_arg0 (ix2 r k) = ((D.xt r k : ℝ) : EReal)
  xi : ∀ r k, V c main_arg1 (ix2 r k) = ((D.xi r k : ℝ) : EReal)
  lab : ∀ (t : Fin 32) (p : Fin 4096), V c main_v92 (ix3 t (0 : Fin 1) p) = ((labR (D.lab ⟨4096 * t.val + p.val, by omega⟩) : ℝ) : EReal)
  wt : HoldsWeights (allWeights D.wtv D.foldLT D.foldAT) (V c main_v58)
  wi : HoldsWeights (allWeights D.wiv D.foldLI D.foldAI) (V c main_v64)
  bt : ∀ f, V c main_v89 (ix2 (0 : Fin 1) f) = ((D.btv f : ℝ) : EReal)
  bi : ∀ f, V c main_v90 (ix2 (0 : Fin 1) f) = ((D.biv f : ℝ) : EReal)
  bl : ∀ q, V c main_v73 (ix2 (0 : Fin 1) q) = ((D.foldBL q : ℝ) : EReal)
  ba : ∀ q, V c main_v88 (ix2 (0 : Fin 1) q) = ((D.foldBA q : ℝ) : EReal)

/-! ## The blocks -/

/-- Where the windows that move stand at a point. -/
theorem moving1 : ∀ t : Fin cfg1.N, (win1_0.index t 0 = t.val ∧ win1_0.index t 1 = 0) ∧ (win1_1.index t 0 = t.val ∧ win1_1.index t 1 = 0)
    ∧ (win1_2.index t 0 = t.val ∧ win1_2.index t 1 = 0 ∧ win1_2.index t 2 = 0) ∧ (win1_9.index t 0 = 0 ∧ win1_9.index t 1 = t.val) :=
  (by decide +kernel : ∀ t : Fin grid1.N, (win1_0.index t 0 = t.val ∧ win1_0.index t 1 = 0) ∧ (win1_1.index t 0 = t.val ∧ win1_1.index t 1 = 0)
    ∧ (win1_2.index t 0 = t.val ∧ win1_2.index t 1 = 0 ∧ win1_2.index t 2 = 0) ∧ (win1_9.index t 0 = 0 ∧ win1_9.index t 1 = t.val))

/-- The others stand at the array's start. -/
theorem still1 : ∀ t : Fin cfg1.N, (win1_3.index t 0 = 0 ∧ win1_3.index t 1 = 0) ∧ (win1_4.index t 0 = 0 ∧ win1_4.index t 1 = 0)
    ∧ (win1_5.index t 0 = 0 ∧ win1_5.index t 1 = 0) ∧ (win1_6.index t 0 = 0 ∧ win1_6.index t 1 = 0) ∧ (win1_7.index t 0 = 0 ∧ win1_7.index t 1 = 0)
    ∧ (win1_8.index t 0 = 0 ∧ win1_8.index t 1 = 0) ∧ (win1_10.index t 0 = 0 ∧ win1_10.index t 1 = 0) :=
  (by decide +kernel : ∀ t : Fin grid1.N, (win1_3.index t 0 = 0 ∧ win1_3.index t 1 = 0) ∧ (win1_4.index t 0 = 0 ∧ win1_4.index t 1 = 0)
    ∧ (win1_5.index t 0 = 0 ∧ win1_5.index t 1 = 0) ∧ (win1_6.index t 0 = 0 ∧ win1_6.index t 1 = 0) ∧ (win1_7.index t 0 = 0 ∧ win1_7.index t 1 = 0)
    ∧ (win1_8.index t 0 = 0 ∧ win1_8.index t 1 = 0) ∧ (win1_10.index t 0 = 0 ∧ win1_10.index t 1 = 0))

/-- An offset of two axes that stands at the start on both. -/
theorem start2 {s : Fin 2 → ℕ} {i : Fin 2 → ℕ} (h : i 0 = 0 ∧ i 1 = 0) : (fun a => i a * s a) = fun _ => 0 := funext fun a => by
  match a with
  | ⟨0, _⟩ => show i 0 * _ = 0; rw [h.1, Nat.zero_mul]
  | ⟨1, _⟩ => show i 1 * _ = 0; rw [h.2, Nat.zero_mul]

/-- A block that is its whole array. -/
theorem whole_block (b : Ref sig .tc) {off : Fin b.ty.shape.rank → ℕ} (h : off = fun _ => 0) (inb : ∀ a, off a + b.ty.shape.size a ≤ b.ty.shape.size a)
    (f : b.ty.Contents (Elt Ideal)) : ((Memref.whole b).access (Rect.unit off b.ty.shape.size inb) : View sig .tc _ _ _).read (Elt Ideal) f = f :=
  Memref.read_access_unit_zero (Elt Ideal) b h inb f

theorem weights_in_t (t : Fin cfg1.N) : iblk1 V c 3 t = V c main_v58 :=
  whole_block main_v58 (start2 (still1 t).1) (fun a => by rw [congrFun (start2 (still1 t).1) a]; simp) _

theorem weights_in_i (t : Fin cfg1.N) : iblk1 V c 4 t = V c main_v64 :=
  whole_block main_v64 (start2 (still1 t).2.1) (fun a => by rw [congrFun (start2 (still1 t).2.1) a]; simp) _

theorem bias_in_t (t : Fin cfg1.N) : iblk1 V c 5 t = V c main_v89 :=
  whole_block main_v89 (start2 (still1 t).2.2.1) (fun a => by rw [congrFun (start2 (still1 t).2.2.1) a]; simp) _

theorem bias_in_i (t : Fin cfg1.N) : iblk1 V c 6 t = V c main_v90 :=
  whole_block main_v90 (start2 (still1 t).2.2.2.1) (fun a => by rw [congrFun (start2 (still1 t).2.2.2.1) a]; simp) _

theorem bias_in_l (t : Fin cfg1.N) : iblk1 V c 7 t = V c main_v73 :=
  whole_block main_v73 (start2 (still1 t).2.2.2.2.1) (fun a => by rw [congrFun (start2 (still1 t).2.2.2.2.1) a]; simp) _

theorem bias_in_a (t : Fin cfg1.N) : iblk1 V c 8 t = V c main_v88 :=
  whole_block main_v88 (start2 (still1 t).2.2.2.2.2.1) (fun a => by rw [congrFun (start2 (still1 t).2.2.2.2.2.1) a]; simp) _

/-- A place of a block as a row. -/
def rowAt (t : Fin 32) (p : Fin 4096) : Fin 131072 := ⟨4096 * t.val + p.val, by omega⟩

/-- A point as a block's number. -/
def blockNo (t : Fin cfg1.N) : Fin 32 := ⟨t.val, Nat.lt_of_lt_of_eq t.isLt N_1⟩

theorem text_in (t : Fin cfg1.N) (p : Fin 4096) (k : Fin 256) : iblk1 V c 0 t (ix2 p k) = V c main_arg0 (ix2 (rowAt (blockNo t) p) k) := by
  unfold iblk1
  rw [View.read_apply]
  show V c main_arg0 _ = V c main_arg0 _
  congr 1
  funext a
  apply Fin.ext
  match a with
  | ⟨0, _⟩ => show win1_0.index t 0 * 4096 + 1 * p.val = 4096 * t.val + p.val; rw [(moving1 t).1.1]; omega
  | ⟨1, _⟩ => show win1_0.index t 1 * 256 + 1 * k.val = k.val; rw [(moving1 t).1.2]; omega

theorem image_in (t : Fin cfg1.N) (p : Fin 4096) (k : Fin 256) : iblk1 V c 1 t (ix2 p k) = V c main_arg1 (ix2 (rowAt (blockNo t) p) k) := by
  unfold iblk1
  rw [View.read_apply]
  show V c main_arg1 _ = V c main_arg1 _
  congr 1
  funext a
  apply Fin.ext
  match a with
  | ⟨0, _⟩ => show win1_1.index t 0 * 4096 + 1 * p.val = 4096 * t.val + p.val; rw [(moving1 t).2.1.1]; omega
  | ⟨1, _⟩ => show win1_1.index t 1 * 256 + 1 * k.val = k.val; rw [(moving1 t).2.1.2]; omega

theorem labels_in (t : Fin cfg1.N) (p : Fin 4096) :
    iblk1 V c 2 t (ix3 (0 : Fin 1) (0 : Fin 1) p) = V c main_v92 (ix3 (blockNo t) (0 : Fin 1) p) := by
  unfold iblk1
  rw [View.read_apply]
  show V c main_v92 _ = V c main_v92 _
  congr 1
  funext a
  apply Fin.ext
  match a with
  | ⟨0, _⟩ => show win1_2.index t 0 * 1 + 1 * 0 = t.val; rw [(moving1 t).2.2.1.1]; omega
  | ⟨1, _⟩ => show win1_2.index t 1 * 1 + 1 * 0 = 0; rw [(moving1 t).2.2.1.2.1]
  | ⟨2, _⟩ => show win1_2.index t 2 * 4096 + 1 * p.val = p.val; rw [(moving1 t).2.2.1.2.2]; omega

/-! ## The lanes -/

variable {D : Data}

theorem allWeights_value (w : Fin 128 → Fin 256 → ℝ) (l a : Fin 256 → Fin 16 → ℝ) (k : Fin 256) (f : Fin 128) :
    allWeights w l a k ⟨f.val, by omega⟩ = w f k := by
  unfold allWeights
  exact dif_pos f.isLt

theorem allWeights_logit (w : Fin 128 → Fin 256 → ℝ) (l a : Fin 256 → Fin 16 → ℝ) (k : Fin 256) (q : Fin 16) :
    allWeights w l a k ⟨128 + q.val, by omega⟩ = l k q := by
  unfold allWeights
  rw [dif_neg (by show ¬ 128 + q.val < 128; omega), dif_pos (by show 128 + q.val < 144; omega)]
  congr 1; apply Fin.ext; show 128 + q.val - 128 = q.val; omega

theorem allWeights_lane (w : Fin 128 → Fin 256 → ℝ) (l a : Fin 256 → Fin 16 → ℝ) (k : Fin 256) (q : Fin 16) :
    allWeights w l a k ⟨144 + q.val, by omega⟩ = a k q := by
  unfold allWeights
  rw [dif_neg (by show ¬ 144 + q.val < 128; omega), dif_neg (by show ¬ 144 + q.val < 144; omega)]
  congr 1; apply Fin.ext; show 144 + q.val - 144 = q.val; omega

/-- What a block of lanes holds: its rows' lanes. -/
theorem lanes_block (H : Found V c D) (t : Fin cfg1.N) (q : Fin 16) (p : Fin 4096) :
    out1_9 (F := Ideal) (iblk1 V c 0 t) (iblk1 V c 1 t) (iblk1 V c 2 t) (iblk1 V c 3 t) (iblk1 V c 4 t) (iblk1 V c 5 t) (iblk1 V c 6 t) (iblk1 V c 7 t)
      (iblk1 V c 8 t) (ix2 q p) = ((D.lane (rowAt (blockNo t) p) q : ℝ) : EReal) := by
  unfold out1_9
  rw [View.canon_unit_zero none2]
  simp only [View.ld_unit_zero (S := S4096x256) none2, View.ld_unit_zero (S := S768x160) none2, View.ld_unit_zero (S := S1x16) none2]
  rw [weights_in_t, weights_in_i, bias_in_l, bias_in_a]
  have hx : ∀ p k, iblk1 V c 0 t (ix2 p k) = ((D.xt (rowAt (blockNo t) p) k : ℝ) : EReal) := fun p k => (text_in V c t p k).trans (H.xt _ _)
  have hy : ∀ p k, iblk1 V c 1 t (ix2 p k) = ((D.xi (rowAt (blockNo t) p) k : ℝ) : EReal) := fun p k => (image_in V c t p k).trans (H.xi _ _)
  refine (lane_apply _ _ _ (fun p q => D.laneLogit (rowAt (blockNo t) p) q) (fun p q => D.laneVal (rowAt (blockNo t) p) q)
    (fun p q => ?_) (fun p q => ?_) q p).trans rfl
  · refine (logit_apply _ _ _ _ _ _ _ _ _ D.foldBL hx hy H.wt H.wi H.bl p q).trans ?_
    simp only [allWeights_logit]
    rfl
  · rw [laneVal_apply _ _ _ _ _ _ _ _ hx hy H.wt H.wi, laneBias_apply, H.ba, ← EReal.coe_add]
    simp only [allWeights_lane]
    rfl

/-- The lanes' array. -/
noncomputable def allLanes (D : Data) : (⟨2, ![16, 131072]⟩ : Shape).Idx → EReal := fun i => ((D.lane (i 1) (i 0) : ℝ) : EReal)

theorem lanes_array (H : Found V c D) : (dat1 (F := Ideal) V c).arrAt 9 cfg1.N = allLanes D :=
  (dat1 V c).arrAt_eq_of_cover 9 (allLanes D) (fun t _ => by
      show (dat1 V c).after 9 t = _
      rw [after1_9]
      funext y
      rw [View.read_apply]
      have h0 : (y 0 : Nat) < 16 := (y 0).isLt
      have h1 : (y 1 : Nat) < 4096 := (y 1).isLt
      have ey : y = ix2 (⟨(y 0).val, h0⟩ : Fin 16) (⟨(y 1).val, h1⟩ : Fin 4096) := by
        funext a
        match a with
        | ⟨0, _⟩ => rfl
        | ⟨1, _⟩ => rfl
      refine (congrArg _ ey).trans ((lanes_block V c H t ⟨(y 0).val, h0⟩ ⟨(y 1).val, h1⟩).trans ?_)
      unfold allLanes
      refine congrArg₂ (fun (r : Fin 131072) (q : Fin 16) => ((D.lane r q : ℝ) : EReal)) (Fin.ext ?_) (Fin.ext ?_)
      · show 4096 * t.val + (y 1).val = win1_9.index t 1 * 4096 + 1 * (y 1).val
        rw [(moving1 t).2.2.2.2]; omega
      · show (y 0).val = win1_9.index t 0 * 16 + 1 * (y 0).val
        rw [(moving1 t).2.2.2.1]; omega)
    fun i => by
      have h0 : (i 0 : Nat) < 16 := (i 0).isLt
      have h1 : (i 1 : Nat) < 131072 := (i 1).isLt
      have ht : ∃ t : Fin cfg1.N, t.val = (i 1 : Nat) / 4096 := ⟨⟨(i 1 : Nat) / 4096, by rw [show cfg1.N = 32 from N_1]; omega⟩, rfl⟩
      obtain ⟨t, ht⟩ := ht
      refine ⟨t, flush1_9 _, ?_⟩
      show i ∈ ((View.whole main_v93_0).slice (win1_9.rect t)).set
      rw [View.set_slice_whole, Rect.mem_set_unit]
      have x1 : win1_9.xsize (grid1.coords t) 1 = 4096 := rfl
      have x0 : win1_9.xsize (grid1.coords t) 0 = 16 := rfl
      intro a
      match a with
      | ⟨0, _⟩ => show win1_9.index t 0 * 16 ≤ (i 0 : Nat) ∧ (i 0 : Nat) < win1_9.index t 0 * 16 + win1_9.xsize (grid1.coords t) 0
                  rw [(moving1 t).2.2.2.1, x0]; omega
      | ⟨1, _⟩ => show win1_9.index t 1 * 4096 ≤ (i 1 : Nat) ∧ (i 1 : Nat) < win1_9.index t 1 * 4096 + win1_9.xsize (grid1.coords t) 1
                  rw [(moving1 t).2.2.2.2, x1]; omega

end Cert.KernelIdeal.Value
-- ==== Proof.KernelIdeal.Counting.lean ====
/-
  The counts the first pass leaves: after each block the sums over the rows of the blocks so far, after the last the sums over all rows.
-/
module

public import proofs.«01_k».proof.Proof.KernelIdeal.Lanes

@[expose] public section

set_option maxRecDepth 16384

open Idealize.ShloMosaic Idealize.ShloMosaic.TcCoe Idealize.ShloMosaic.ValueIdx Fusion
open Idealize.ShloMosaic.Pipeline (Dat Cfg Window)
open scoped BigOperators

namespace Cert.KernelIdeal.Value

open Cert.KernelIdeal Cert.KernelIdeal.Gen Cert.KernelIdeal.Run

variable (V : (c : Dev nD) → (b : Ref sig .tc) → Buf (Elt Ideal) ((c : Thread nD τ).loc b)) (c : Dev nD)

/-- What a row counts for on each of the two sides: one, and its label. -/
def side (D : Data) (a : Fin 2) (r : Fin 131072) : ℝ := if a.val = 0 then 1 else labR (D.lab r)

/-- What a row marks in a column: a text value's gate, an image value's gate, or one. -/
noncomputable def mark (D : Data) (r : Fin 131072) (j : Fin 384) : ℝ :=
  if h : j.val < 128 then gate (D.tV r ⟨j.val, h⟩) else if h2 : j.val < 256 then gate (D.iV r ⟨j.val - 128, by omega⟩) else 1

/-- A block's sum, zero past the last block. -/
noncomputable def blockSum (D : Data) (a : Fin 2) (j : Fin 384) (s : ℕ) : ℝ :=
  if h : s < 32 then ∑ p, side D a (rowAt ⟨s, h⟩ p) * mark D (rowAt ⟨s, h⟩ p) j else 0

/-- The sums of all blocks are the sum over all rows. -/
theorem sum_blocks (D : Data) (a : Fin 2) (j : Fin 384) : ∑ s ∈ Finset.range 32, blockSum D a j s = ∑ r, side D a r * mark D r j := by
  rw [Finset.sum_range]
  have h : ∀ s : Fin 32, blockSum D a j s.val = ∑ p, side D a (rowAt s p) * mark D (rowAt s p) j := fun s => dif_pos s.isLt
  rw [Finset.sum_congr rfl fun s _ => h s, ← Fintype.sum_prod_type']
  refine Fintype.sum_equiv (finProdFinEquiv (m := 32) (n := 4096)) (fun x => side D a (rowAt x.1 x.2) * mark D (rowAt x.1 x.2) j)
    (fun r : Fin 131072 => side D a r * mark D r j) fun x => ?_
  have e : rowAt x.1 x.2 = (finProdFinEquiv (m := 32) (n := 4096) x : Fin 131072) := Fin.ext (Nat.add_comm _ _)
  rw [e]

variable {D : Data}

/-- One block's sums, as the body has them. -/
theorem block_counts (H : Found V c D) (t : Fin cfg1.N) (a : Fin 2) (j : Fin 384) :
    k1_pay1 (F := Ideal) (k1_pay11 (k1_pay5 (iblk1 V c 0 t) (iblk1 V c 3 t) (iblk1 V c 5 t)) (k1_pay6 (iblk1 V c 1 t) (iblk1 V c 4 t) (iblk1 V c 6 t)))
      (k1_pay12 (iblk1 V c 2 t)) (ix2 a j) = ((blockSum D a j t.val : ℝ) : EReal) := by
  have hx : ∀ p k, iblk1 V c 0 t (ix2 p k) = ((D.xt (rowAt (blockNo t) p) k : ℝ) : EReal) := fun p k => (text_in V c t p k).trans (H.xt _ _)
  have hy : ∀ p k, iblk1 V c 1 t (ix2 p k) = ((D.xi (rowAt (blockNo t) p) k : ℝ) : EReal) := fun p k => (image_in V c t p k).trans (H.xi _ _)
  rw [weights_in_t, weights_in_i, bias_in_t, bias_in_i, pay6_eq]
  have hT : ∀ p f, k1_pay5 (F := Ideal) (iblk1 V c 0 t) (V c main_v58) (V c main_v89) (ix2 p f) = ((D.tV (rowAt (blockNo t) p) f : ℝ) : EReal) := fun p f => by
    refine (value_apply _ _ _ _ _ D.btv hx H.wt H.bt p f).trans ?_
    simp only [allWeights_value]
    rfl
  have hU : ∀ p f, k1_pay5 (F := Ideal) (iblk1 V c 1 t) (V c main_v64) (V c main_v90) (ix2 p f) = ((D.iV (rowAt (blockNo t) p) f : ℝ) : EReal) := fun p f => by
    refine (value_apply _ _ _ _ _ D.biv hy H.wi H.bi p f).trans ?_
    simp only [allWeights_value]
    rfl
  refine (counts_apply _ _ a j (fun p => mark D (rowAt (blockNo t) p) j) (fun p => side D a (rowAt (blockNo t) p)) (fun p => ?_) (fun p => ?_)).trans ?_
  · have g := fun f => gates_apply _ _ _ _ hT hU p f
    unfold mark
    split
    · next h => exact (g ⟨j.val, h⟩).1
    · next h =>
      split
      · next h2 =>
        have e : j = ⟨128 + (⟨j.val - 128, by omega⟩ : Fin 128).val, by show 128 + (j.val - 128) < 384; omega⟩ :=
          Fin.ext (by show j.val = 128 + (j.val - 128); omega)
        exact (congrArg (fun j : Fin 384 => k1_pay11 (F := Ideal) _ _ (ix2 p j)) e).trans (g ⟨j.val - 128, by omega⟩).2.1
      · next h2 =>
        have e : j = ⟨256 + (⟨j.val - 256, by omega⟩ : Fin 128).val, by show 256 + (j.val - 256) < 384; omega⟩ :=
          Fin.ext (by show j.val = 256 + (j.val - 256); omega)
        exact (congrArg (fun j : Fin 384 => k1_pay11 (F := Ideal) _ _ (ix2 p j)) e).trans (g ⟨j.val - 256, by omega⟩).2.2
  · unfold side
    match a with
    | ⟨0, _⟩ => exact (sides_apply _ p).1
    | ⟨1, _⟩ => exact (sides_apply _ p).2.trans ((labels_in V c t p).trans (H.lab _ _))
  · refine congrArg (fun x : ℝ => (x : EReal)) ?_
    unfold blockSum
    rw [dif_pos (show t.val < 32 from (blockNo t).isLt)]
    rfl

/-- After each point: the sums of the blocks so far. -/
theorem counts_after (H : Found V c D) (a : Fin 2) (j : Fin 384) : ∀ (n : ℕ) (h : n < cfg1.N),
    stats1 (F := Ideal) V c n h (ix2 a j) = ((∑ s ∈ Finset.range (n + 1), blockSum D a j s : ℝ) : EReal)
  | 0, h => by
    unfold stats1 out1_first
    rw [View.canon_unit_zero none2]
    simp only [View.ld_unit_zero (S := S4096x256) none2, View.ld_unit_zero (S := S768x160) none2, View.ld_unit_zero (S := S1x128) none2,
      View.ld_unit_zero (S := S1x1x4096) none3]
    rw [block_counts V c H ⟨0, h⟩ a j, Finset.sum_range_one]
  | n + 1, h => by
    unfold stats1 out1_later
    rw [View.canon_unit_zero none2]
    simp only [View.ld_unit_zero (S := S4096x256) none2, View.ld_unit_zero (S := S768x160) none2, View.ld_unit_zero (S := S1x128) none2,
      View.ld_unit_zero (S := S1x1x4096) none3, View.ld_unit_zero (S := S2x384) none2]
    rw [counts_add, block_counts V c H ⟨n + 1, h⟩ a j, counts_after H a j n (by omega), ← EReal.coe_add, Finset.sum_range_succ _ (n + 1)]

/-- The last point. -/
def lastPoint : Fin cfg1.N := ⟨31, by rw [show cfg1.N = 32 from N_1]; omega⟩

theorem counts_array : (dat1 (F := Ideal) V c).arrAt 10 cfg1.N = stats1 (F := Ideal) V c 31 lastPoint.isLt :=
  (dat1 V c).arrAt_eq_of_cover 10 _ (fun t ht => by
      have hz := start2 (s := main_v93_1.ty.shape.size) (still1 t).2.2.2.2.2.2
      have hv : t.val = 31 := by
        have h := (flush1_10 t).mp ht
        have h2 : t.val < 32 := Nat.lt_of_lt_of_eq t.isLt N_1
        omega
      have et : t = lastPoint := Fin.ext hv
      refine Eq.trans ?_ (whole_block main_v93_1 hz (fun a => by rw [congrFun hz a]; simp) (stats1 (F := Ideal) V c 31 lastPoint.isLt)).symm
      show (dat1 V c).after 10 t = stats1 (F := Ideal) V c 31 lastPoint.isLt
      rw [after1_10]
      subst et
      rfl)
    fun i => ⟨lastPoint, (flush1_10 _).mpr rfl, by
      show i ∈ ((View.whole main_v93_1).slice (win1_10.rect lastPoint)).set
      rw [View.set_slice_whole, Rect.mem_set_unit]
      have h0 : (i 0 : Nat) < 2 := (i 0).isLt
      have h1 : (i 1 : Nat) < 384 := (i 1).isLt
      have x1 : win1_10.xsize (grid1.coords lastPoint) 1 = 384 := rfl
      have x0 : win1_10.xsize (grid1.coords lastPoint) 0 = 2 := rfl
      obtain ⟨e0, e1⟩ := (still1 lastPoint).2.2.2.2.2.2
      intro a
      match a with
      | ⟨0, _⟩ => show win1_10.index lastPoint 0 * 2 ≤ (i 0 : Nat) ∧ (i 0 : Nat) < win1_10.index lastPoint 0 * 2 + win1_10.xsize (grid1.coords lastPoint) 0
                  rw [e0, x0]; omega
      | ⟨1, _⟩ => show win1_10.index lastPoint 1 * 384 ≤ (i 1 : Nat) ∧ (i 1 : Nat) < win1_10.index lastPoint 1 * 384 + win1_10.xsize (grid1.coords lastPoint) 1
                  rw [e1, x1]; omega⟩

/-- The array's entries as sums over all rows. -/
theorem counts_all (H : Found V c D) (a : Fin 2) (j : Fin 384) :
    (dat1 (F := Ideal) V c).arrAt 10 cfg1.N (ix2 a j) = ((∑ r, side D a r * mark D r j : ℝ) : EReal) := by
  rw [counts_array]
  refine (counts_after V c H a j 31 lastPoint.isLt).trans ?_
  rw [sum_blocks]

theorem mark_t (r : Fin 131072) (f : Fin 128) : mark D r ⟨f.val, by omega⟩ = gate (D.tV r f) := by
  unfold mark
  exact dif_pos f.isLt

theorem mark_u (r : Fin 131072) (f : Fin 128) : mark D r ⟨128 + f.val, by omega⟩ = gate (D.iV r f) := by
  unfold mark
  rw [dif_neg (by show ¬ 128 + f.val < 128; omega), dif_pos (by show 128 + f.val < 256; omega)]
  congr 2; apply Fin.ext; show 128 + f.val - 128 = f.val; omega

theorem mark_l (r : Fin 131072) (f : Fin 128) : mark D r ⟨256 + f.val, by omega⟩ = 1 := by
  unfold mark
  rw [dif_neg (by show ¬ 256 + f.val < 128; omega), dif_neg (by show ¬ 256 + f.val < 256; omega)]

/-- The counts' array holds the counts. -/
theorem holds_counts (H : Found V c D) : HoldsCounts D ((dat1 (F := Ideal) V c).arrAt 10 cfg1.N) where
  t f := (counts_all V c H 0 _).trans (congrArg (fun x : ℝ => (x : EReal)) (Finset.sum_congr rfl fun r _ => by rw [mark_t]; exact one_mul _))
  u f := (counts_all V c H 0 _).trans (congrArg (fun x : ℝ => (x : EReal)) (Finset.sum_congr rfl fun r _ => by rw [mark_u]; exact one_mul _))
  tl f := (counts_all V c H 1 _).trans (congrArg (fun x : ℝ => (x : EReal)) (Finset.sum_congr rfl fun r _ => by rw [mark_t]; rfl))
  ul f := (counts_all V c H 1 _).trans (congrArg (fun x : ℝ => (x : EReal)) (Finset.sum_congr rfl fun r _ => by rw [mark_u]; rfl))
  l f := (counts_all V c H 1 _).trans (congrArg (fun x : ℝ => (x : EReal)) (Finset.sum_congr rfl fun r _ => by rw [mark_l]; exact mul_one _))

end Cert.KernelIdeal.Value
-- ==== Proof.KernelIdeal.Host.lean ====
/-
  What the host's lines of operations leave in the buffers that the passes read, from the contents before each line.
-/
module

public import proofs.«01_k».proof.Proof.KernelIdeal.Folding
public import Idealize.ShloMosaic.Lib.StableHlo.RunRead

@[expose] public section

set_option maxRecDepth 16384

noncomputable section

open Idealize.ShloMosaic Idealize.ShloMosaic.ValueIdx Idealize.ShloMosaic.TcCoe Fusion
open Cert.KernelIdeal Cert.KernelIdeal.Gen

namespace Cert.KernelIdeal.Value

variable (V : Valuation τ sig (Elt Ideal))

/-- What a line leaves in a buffer. -/
abbrev first (r : Ref sig .tc) := StableHlo.after (hostOps0 (F := Ideal)) V (Proc.devRef .tc r)
abbrev second (r : Ref sig .tc) := StableHlo.after (hostOps1 (F := Ideal)) V (Proc.devRef .tc r)
abbrev was (r : Ref sig .tc) := V (Proc.devRef .tc r)

/-! ## The first line -/

theorem first_v15 : first V main_v15 = scaled (attQ (was V main_arg15)) tableRep := by after_reads_simp; rfl
theorem first_v18 : first V main_v18 = scaled (attK (was V main_arg15)) tableRep := by after_reads_simp; rfl
theorem first_v21 : first V main_v21 = scaled (outF (was V main_arg17)) tableGrp0 := by after_reads_simp; rfl
theorem first_v24 : first V main_v24 = scaled (outF (was V main_arg17)) tableGrp12 := by after_reads_simp; rfl
theorem first_v28 : first V main_v28 = scaled (outT (was V main_arg17)) (laneRows lit3) := by after_reads_simp; rfl
theorem first_v32 : first V main_v32 = scaled (outI (was V main_arg17)) (laneRows lit4) := by after_reads_simp; rfl
theorem first_v2 : first V main_v2 = laneRow lit5 := by after_reads_simp; rfl
theorem first_v49 : first V main_v49 = columns (was V main_arg7) := by after_reads_simp; rfl
theorem first_v50 : first V main_v50 = columns (was V main_arg13) := by after_reads_simp; rfl

theorem upto_v34 : StableHlo.upto (hostOps0 (F := Ideal)) V 46 (Proc.devRef .tc main_v34)
    = through (was V main_arg3) (scaled (attQ (was V main_arg15)) tableRep) := by after_reads_simp; rfl
theorem upto_v39 : StableHlo.upto (hostOps0 (F := Ideal)) V 46 (Proc.devRef .tc main_v39)
    = addf (F := Ideal) (φ := .f32) (through (was V main_arg7) (scaled (outF (was V main_arg17)) tableGrp0))
        (through (was V main_arg3) (scaled (outT (was V main_arg17)) (laneRows lit3))) := by after_reads_simp; rfl
theorem first_v40 : first V main_v40 = lanes (through (was V main_arg3) (scaled (attQ (was V main_arg15)) tableRep))
    (addf (F := Ideal) (φ := .f32) (through (was V main_arg7) (scaled (outF (was V main_arg17)) tableGrp0))
        (through (was V main_arg3) (scaled (outT (was V main_arg17)) (laneRows lit3)))) := by
  after_reads_simp
  exact congrArg₂ lanes (upto_v34 V) (upto_v39 V)

theorem upto_v42 : StableHlo.upto (hostOps0 (F := Ideal)) V 54 (Proc.devRef .tc main_v42)
    = through (was V main_arg11) (scaled (attK (was V main_arg15)) tableRep) := by after_reads_simp; rfl
theorem upto_v47 : StableHlo.upto (hostOps0 (F := Ideal)) V 54 (Proc.devRef .tc main_v47)
    = addf (F := Ideal) (φ := .f32) (through (was V main_arg13) (scaled (outF (was V main_arg17)) tableGrp12))
        (through (was V main_arg9) (scaled (outI (was V main_arg17)) (laneRows lit4))) := by after_reads_simp; rfl
theorem first_v48 : first V main_v48 = lanes (through (was V main_arg11) (scaled (attK (was V main_arg15)) tableRep))
    (addf (F := Ideal) (φ := .f32) (through (was V main_arg13) (scaled (outF (was V main_arg17)) tableGrp12))
        (through (was V main_arg9) (scaled (outI (was V main_arg17)) (laneRows lit4)))) := by
  after_reads_simp
  exact congrArg₂ lanes (upto_v42 V) (upto_v47 V)

/-! ## The second line -/

/-- What the second line leaves in a buffer part of the way. -/
abbrev midway (n : ℕ) (r : Ref sig .tc) := StableHlo.upto (hostOps1 (F := Ideal)) V n (Proc.devRef .tc r)

theorem midway_v52 (n : ℕ) (h : n = 5 ∨ n = 6 ∨ n = 11 ∨ n = 12) : midway V n main_v52 = zeros := by
  rcases h with rfl | rfl | rfl | rfl <;> (after_reads_simp; rfl)
theorem midway_v51_0 (n : ℕ) (h : n = 4 ∨ n = 6) : midway V n main_v51_0 = was V main_v51_0 := by
  rcases h with rfl | rfl <;> after_reads_simp
theorem midway_v51_1 (n : ℕ) (h : n = 10 ∨ n = 12) : midway V n main_v51_1 = was V main_v51_1 := by
  rcases h with rfl | rfl <;> after_reads_simp
theorem midway_v40 : midway V 4 main_v40 = was V main_v40 := by after_reads_simp
theorem midway_v48 : midway V 10 main_v48 = was V main_v48 := by after_reads_simp
theorem midway_v54 : midway V 5 main_v54 = subf (F := Ideal) (φ := .f32) (columns (was V main_arg7)) (was V main_v51_0) := by after_reads_simp; rfl
theorem midway_v60 : midway V 11 main_v60 = subf (F := Ideal) (φ := .f32) (columns (was V main_arg13)) (was V main_v51_1) := by after_reads_simp; rfl

theorem midway_v55 : midway V 7 main_v55 = besides (was V main_v51_0) (was V main_v40) := by
  after_reads_simp
  exact congrArg₂ besides (midway_v51_0 V 4 (by omega)) (midway_v40 V)
theorem midway_v56 : midway V 7 main_v56 = besides (subf (F := Ideal) (φ := .f32) (columns (was V main_arg7)) (was V main_v51_0)) zeros := by
  after_reads_simp
  exact congrArg₂ besides (midway_v54 V) (midway_v52 V 5 (by omega))
theorem midway_v57 : midway V 7 main_v57 = besides (was V main_v51_0) zeros := by
  after_reads_simp
  exact congrArg₂ besides (midway_v51_0 V 6 (by omega)) (midway_v52 V 6 (by omega))
theorem midway_v61 : midway V 13 main_v61 = besides (was V main_v51_1) (was V main_v48) := by
  after_reads_simp
  exact congrArg₂ besides (midway_v51_1 V 10 (by omega)) (midway_v48 V)
theorem midway_v62 : midway V 13 main_v62 = besides (subf (F := Ideal) (φ := .f32) (columns (was V main_arg13)) (was V main_v51_1)) zeros := by
  after_reads_simp
  exact congrArg₂ besides (midway_v60 V) (midway_v52 V 11 (by omega))
theorem midway_v63 : midway V 13 main_v63 = besides (was V main_v51_1) zeros := by
  after_reads_simp
  exact congrArg₂ besides (midway_v51_1 V 12 (by omega)) (midway_v52 V 12 (by omega))

/-- Three blocks of rows. -/
def pile (x y z : Mat 256 160) : Mat 768 160 :=
  concatenate S768x160 0 [⟨S256x160, x⟩, ⟨S256x160, y⟩, ⟨S256x160, z⟩] concatenates_S256x160_S256x160_S256x160_S768x160_d0

theorem pile_congr {x x' y y' z z' : Mat 256 160} (hx : x = x') (hy : y = y') (hz : z = z') : pile x y z = pile x' y' z' := by
  subst hx hy hz; rfl

theorem second_v58 : second V main_v58 = stacked (was V main_v51_0) (was V main_arg7) (was V main_v40) := by
  after_reads_simp
  exact pile_congr (midway_v55 V) (midway_v56 V) (midway_v57 V)
theorem second_v64 : second V main_v64 = stacked (was V main_v51_1) (was V main_arg13) (was V main_v48) := by
  after_reads_simp
  exact pile_congr (midway_v61 V) (midway_v62 V) (midway_v63 V)

theorem second_v66 : second V main_v66 = biasRep (was V main_arg16) := by
  after_reads_simp
  rfl

/-- A vector as a row. -/
def rowOf {n : ℕ} (h : (⟨1, ![n]⟩ : Shape).BroadcastsInDim ⟨2, ![1, n]⟩ ![1]) (x : Vect n) : Mat 1 n := broadcastInDim ⟨2, ![1, n]⟩ ![1] h x

theorem second_v73 : second V main_v73 = addf (F := Ideal) (φ := .f32) (addf (F := Ideal) (φ := .f32) (biasThrough (was V main_arg4) (was V main_v15))
    (biasThrough (was V main_arg12) (was V main_v18))) (rowOf bcast_S16_S1x16_1 (biasRep (was V main_arg16))) := by
  after_reads_simp; rfl

theorem second_v88 : second V main_v88 = addf (F := Ideal) (φ := .f32) (addf (F := Ideal) (φ := .f32) (addf (F := Ideal) (φ := .f32)
    (addf (F := Ideal) (φ := .f32) (biasThrough (was V main_arg8) (was V main_v21)) (biasThrough (was V main_arg4) (was V main_v28)))
    (biasThrough (was V main_arg14) (was V main_v24))) (biasThrough (was V main_arg10) (was V main_v32)))
    (mulf (F := Ideal) (φ := .f32) (broadcastInDim S1x16 ![] bcast_S_S1x16 (shapeCast S_ (was V main_arg18) shapeCasts_S1_S_)) (was V main_v2)) := by
  after_reads_simp; rfl

theorem second_v89 : second V main_v89 = rowOf bcast_S128_S1x128_1 (was V main_arg8) := by after_reads_simp; rfl
theorem second_v90 : second V main_v90 = rowOf bcast_S128_S1x128_1 (was V main_arg14) := by after_reads_simp; rfl
theorem second_v92 : second V main_v92 = shapeCast S32x1x4096 (sitofp (F := Ideal) (s := S131072) .f32 (was V main_arg2)) shapeCasts_S131072_S32x1x4096 := by
  after_reads_simp; rfl

end Cert.KernelIdeal.Value
-- ==== Proof.KernelIdeal.Value.lean ====
/-
  The kernel's result: when the arguments hold real numbers the first pass finds the folded weights, its lanes and counts are those of the
  rows, and the result array holds each row's result.
-/
module

public import proofs.«01_k».proof.Proof.KernelIdeal.Counting
public import proofs.«01_k».proof.Proof.KernelIdeal.Host

@[expose] public section

set_option maxRecDepth 16384

noncomputable section

open Idealize.ShloMosaic Idealize.ShloMosaic.TcCoe Idealize.ShloMosaic.ValueIdx Fusion
open scoped BigOperators

namespace Cert.KernelIdeal.Value

open Cert.KernelIdeal Cert.KernelIdeal.Gen Cert.KernelIdeal.Run

variable (m : (ℓ : Loc nD τ sig) → Buf (Elt Ideal) ℓ) (ρ : Dev nD → PrngReg) (c : Dev nD)

/-- What an argument holds at launch. -/
abbrev given (r : Ref sig .tc) : Buf (Elt Ideal) ((c : Thread nD τ).loc r) := m ((c : Thread nD τ).loc r)

/-- The arguments hold `D`. -/
abbrev HoldsAt (D : Data) : Prop :=
  Holds D (given m c main_arg0) (given m c main_arg1) (given m c main_arg2) (given m c main_arg3) (given m c main_arg4) (given m c main_arg7)
    (given m c main_arg8) (given m c main_arg9) (given m c main_arg10) (given m c main_arg11) (given m c main_arg12) (given m c main_arg13)
    (given m c main_arg14) (given m c main_arg15) (given m c main_arg16) (given m c main_arg17) (given m c main_arg18)

/-! ## After the split -/

/-- The contents after the split, as the second line finds them. -/
abbrev mid (r : Ref sig .tc) := was (W2 m ρ c) r

theorem mid_arg (r : Ref sig .tc) (h : r ∈ argRefs) : mid m ρ c r = given m c r := W2_args m ρ c r h

theorem mid_of (r : Ref sig .tc) (h : ∀ w : Fin cfg0.W, Pipeline.arrRef spec0 w = r → (cfg0.win w).isOut = false) :
    mid m ρ c r = first (W0 m ρ c) r := W2_of m ρ c r h

theorem mid_v51_0 : mid m ρ c main_v51_0 = columns (given m c main_arg7) :=
  (W2_arr m ρ c 2).trans ((split_v51_0 (V1 m ρ) c).trans (first_v49 (W0 m ρ c)))

theorem mid_v51_1 : mid m ρ c main_v51_1 = columns (given m c main_arg13) :=
  (W2_arr m ρ c 3).trans ((split_v51_1 (V1 m ρ) c).trans (first_v50 (W0 m ρ c)))

/-- What the first line leaves is left by the split. -/
theorem not_out : ∀ r ∈ [main_v2, main_v15, main_v18, main_v21, main_v24, main_v28, main_v32, main_v40, main_v48],
    ∀ w : Fin cfg0.W, Pipeline.arrRef spec0 w = r → (cfg0.win w).isOut = false :=
  ListAll.forall_mem_of_all_decide (by decide +kernel)

/-! ## What the first pass finds -/

variable {D : Data}

/-- A label as an integer. -/
theorem label_toInt (b : Bool) : ((((BitVec.ofBool b).setWidth 32).toInt : ℝ) : EReal) = ((labR b : ℝ) : EReal) := by
  cases b
  · show (((0 : ℤ) : ℝ) : EReal) = ((0 : ℝ) : EReal)
    rw [Int.cast_zero]
  · show (((1 : ℤ) : ℝ) : EReal) = ((1 : ℝ) : EReal)
    rw [Int.cast_one]

theorem found_lab (H : HoldsAt m c D) (t : Fin 32) (p : Fin 4096) :
    V3 m ρ c main_v92 (ix3 t (0 : Fin 1) p) = ((labR (D.lab ⟨4096 * t.val + p.val, by omega⟩) : ℝ) : EReal) := by
  refine (congrFun (second_v92 (W2 m ρ c)) _).trans ?_
  refine (shapeCast_apply _ shapeCasts_S131072_S32x1x4096 (ix3 t (0 : Fin 1) p) (ix1 (⟨4096 * t.val + p.val, by omega⟩ : Fin 131072)) ?_).trans ?_
  · rw [Shape.rowMajor_val_one, Shape.rowMajor_val_three]
    show 4096 * t.val + p.val = (t.val * 1 + 0) * 4096 + p.val
    omega
  · rw [sitofp_apply]
    have e : mid m ρ c main_arg2 (ix1 (⟨4096 * t.val + p.val, by omega⟩ : Fin 131072)) = _ :=
      (congrFun (mid_arg m ρ c main_arg2 (by decide)) _).trans (H.lab _)
    exact (congrArg (fun b : BitVec 32 => ((b.toInt : ℝ) : EReal)) e).trans (label_toInt _)

theorem found_v58 : V3 m ρ c main_v58 = stacked (columns (given m c main_arg7)) (given m c main_arg7)
    (lanes (through (given m c main_arg3) (scaled (attQ (given m c main_arg15)) tableRep))
      (addf (F := Ideal) (φ := .f32) (through (given m c main_arg7) (scaled (outF (given m c main_arg17)) tableGrp0))
        (through (given m c main_arg3) (scaled (outT (given m c main_arg17)) (laneRows lit3))))) := by
  refine (second_v58 (W2 m ρ c)).trans ?_
  rw [show was (W2 m ρ c) main_v51_0 = _ from mid_v51_0 m ρ c, show was (W2 m ρ c) main_arg7 = _ from mid_arg m ρ c main_arg7 (by decide),
    show was (W2 m ρ c) main_v40 = _ from (mid_of m ρ c main_v40 (not_out _ (by decide))).trans (first_v40 (W0 m ρ c))]

theorem found_v64 : V3 m ρ c main_v64 = stacked (columns (given m c main_arg13)) (given m c main_arg13)
    (lanes (through (given m c main_arg11) (scaled (attK (given m c main_arg15)) tableRep))
      (addf (F := Ideal) (φ := .f32) (through (given m c main_arg13) (scaled (outF (given m c main_arg17)) tableGrp12))
        (through (given m c main_arg9) (scaled (outI (given m c main_arg17)) (laneRows lit4))))) := by
  refine (second_v64 (W2 m ρ c)).trans ?_
  rw [show was (W2 m ρ c) main_v51_1 = _ from mid_v51_1 m ρ c, show was (W2 m ρ c) main_arg13 = _ from mid_arg m ρ c main_arg13 (by decide),
    show was (W2 m ρ c) main_v48 = _ from (mid_of m ρ c main_v48 (not_out _ (by decide))).trans (first_v48 (W0 m ρ c))]

theorem found_wt (H : HoldsAt m c D) : HoldsWeights (allWeights D.wtv D.foldLT D.foldAT) (V3 m ρ c main_v58) := by
  rw [found_v58]
  refine stacked_holds _ _ _ _ D.wtv D.foldLT D.foldAT H.tv.w rfl (fun k q => through_apply H.tq _ k q _ fun f => mlogQ_apply H.aw f q) fun k q => ?_
  rw [addf_apply, through_apply H.tv _ k q _ (fun f => maT_apply H.wo f q), through_apply H.tq _ k q _ (fun f => mpT_apply H.wo f q), ← EReal.coe_add]
  rfl

theorem found_wi (H : HoldsAt m c D) : HoldsWeights (allWeights D.wiv D.foldLI D.foldAI) (V3 m ρ c main_v64) := by
  rw [found_v64]
  refine stacked_holds _ _ _ _ D.wiv D.foldLI D.foldAI H.iv.w rfl (fun k q => through_apply H.ik _ k q _ fun f => mlogK_apply H.aw f q) fun k q => ?_
  rw [addf_apply, through_apply H.iv _ k q _ (fun f => maI_apply H.wo f q), through_apply H.iq _ k q _ (fun f => mpI_apply H.wo f q), ← EReal.coe_add]
  rfl

theorem found_bl (H : HoldsAt m c D) (q : Fin 16) : V3 m ρ c main_v73 (ix2 (0 : Fin 1) q) = ((D.foldBL q : ℝ) : EReal) := by
  refine (congrFun (second_v73 (W2 m ρ c)) _).trans ?_
  rw [show was (W2 m ρ c) main_arg4 = _ from mid_arg m ρ c main_arg4 (by decide), show was (W2 m ρ c) main_arg12 = _ from mid_arg m ρ c main_arg12 (by decide),
    show was (W2 m ρ c) main_arg16 = _ from mid_arg m ρ c main_arg16 (by decide),
    show was (W2 m ρ c) main_v15 = _ from (mid_of m ρ c main_v15 (not_out _ (by decide))).trans (first_v15 (W0 m ρ c)),
    show was (W2 m ρ c) main_v18 = _ from (mid_of m ρ c main_v18 (not_out _ (by decide))).trans (first_v18 (W0 m ρ c))]
  rw [addf_apply, addf_apply, biasThrough_apply H.tq _ q _ (fun f => mlogQ_apply H.aw f q), biasThrough_apply H.ik _ q _ (fun f => mlogK_apply H.aw f q)]
  unfold rowOf
  rw [as_row _ (by decide), biasRep_apply _ H.ab, ← EReal.coe_add, ← EReal.coe_add]
  rfl

theorem found_ba (H : HoldsAt m c D) (q : Fin 16) : V3 m ρ c main_v88 (ix2 (0 : Fin 1) q) = ((D.foldBA q : ℝ) : EReal) := by
  refine (congrFun (second_v88 (W2 m ρ c)) _).trans ?_
  rw [show was (W2 m ρ c) main_arg8 = _ from mid_arg m ρ c main_arg8 (by decide), show was (W2 m ρ c) main_arg4 = _ from mid_arg m ρ c main_arg4 (by decide),
    show was (W2 m ρ c) main_arg14 = _ from mid_arg m ρ c main_arg14 (by decide), show was (W2 m ρ c) main_arg10 = _ from mid_arg m ρ c main_arg10 (by decide),
    show was (W2 m ρ c) main_arg18 = _ from mid_arg m ρ c main_arg18 (by decide),
    show was (W2 m ρ c) main_v21 = _ from (mid_of m ρ c main_v21 (not_out _ (by decide))).trans (first_v21 (W0 m ρ c)),
    show was (W2 m ρ c) main_v28 = _ from (mid_of m ρ c main_v28 (not_out _ (by decide))).trans (first_v28 (W0 m ρ c)),
    show was (W2 m ρ c) main_v24 = _ from (mid_of m ρ c main_v24 (not_out _ (by decide))).trans (first_v24 (W0 m ρ c)),
    show was (W2 m ρ c) main_v32 = _ from (mid_of m ρ c main_v32 (not_out _ (by decide))).trans (first_v32 (W0 m ρ c)),
    show was (W2 m ρ c) main_v2 = _ from (mid_of m ρ c main_v2 (not_out _ (by decide))).trans (first_v2 (W0 m ρ c))]
  have ho : shapeCast S_ (given m c main_arg18) shapeCasts_S1_S_ ix0 = ((D.bo : ℝ) : EReal) :=
    (shapeCast_apply _ shapeCasts_S1_S_ ix0 (ix1 (0 : Fin 1)) rfl).trans H.bo
  rw [addf_apply, addf_apply, addf_apply, addf_apply, mulf_apply, biasThrough_apply H.tv _ q _ (fun f => maT_apply H.wo f q),
    biasThrough_apply H.tq _ q _ (fun f => mpT_apply H.wo f q), biasThrough_apply H.iv _ q _ (fun f => maI_apply H.wo f q),
    biasThrough_apply H.iq _ q _ (fun f => mpI_apply H.wo f q), laneRow_apply _ (fun q => (bits_lane q).2.2) q,
    show broadcastInDim S1x16 ![] bcast_S_S1x16 (shapeCast S_ (given m c main_arg18) shapeCasts_S1_S_) (ix2 (0 : Fin 1) q) = ((D.bo : ℝ) : EReal) from
      (broadcastInDim_scalar_apply _ _ _).trans ho,
    ← EReal.coe_mul, ← EReal.coe_add, ← EReal.coe_add, ← EReal.coe_add, ← EReal.coe_add]
  rfl

theorem found (H : HoldsAt m c D) : Found (V3 m ρ) c D where
  xt r k := (congrFun (W3_args m ρ c main_arg0 (by decide)) _).trans (H.xt r k)
  xi r k := (congrFun (W3_args m ρ c main_arg1 (by decide)) _).trans (H.xi r k)
  lab := found_lab m ρ c H
  wt := found_wt m ρ c H
  wi := found_wi m ρ c H
  bt f := by
    refine (congrFun (second_v89 (W2 m ρ c)) _).trans ?_
    rw [show was (W2 m ρ c) main_arg8 = _ from mid_arg m ρ c main_arg8 (by decide)]
    exact (as_row _ (by decide) _ _).trans (H.tv.b f)
  bi f := by
    refine (congrFun (second_v90 (W2 m ρ c)) _).trans ?_
    rw [show was (W2 m ρ c) main_arg14 = _ from mid_arg m ρ c main_arg14 (by decide)]
    exact (as_row _ (by decide) _ _).trans (H.iv.b f)
  bl := found_bl m ρ c H
  ba := found_ba m ρ c H

/-! ## The result -/

theorem last_v95 (U : Valuation τ sig (Elt Ideal)) : StableHlo.after (hostOps3 (F := Ideal)) U (Proc.devRef .tc main_v95)
    = shapeCast S131072x1 (was U main_v94) shapeCasts_S8x1x16384_S131072x1 := by after_reads_simp; rfl

/-- The result array: a row's result in each row. -/
theorem result (H : HoldsAt m c D) (r : Fin 131072) : W6 m ρ c (Proc.devRef .tc main_v95) (ix2 r (0 : Fin 1)) = ((D.out r : ℝ) : EReal) := by
  have F := found m ρ c H
  have e0 : V4 m ρ c main_v93_0 = allLanes D := (W4_arr m ρ c 9).trans (lanes_array (V3 m ρ) c F)
  have e1 : V4 m ρ c main_v93_1 = _ := W4_arr m ρ c 10
  have hc : HoldsCounts D (V4 m ρ c main_v93_1) := by rw [e1]; exact holds_counts (V3 m ρ) c F
  have e2 : was (W5 m ρ c) main_v94 = rowResults D :=
    (W5_arr m ρ c 2).trans (results (V4 m ρ) c hc fun q r => by rw [e0]; rfl)
  refine (congrFun (last_v95 (W5 m ρ c)) _).trans ?_
  rw [e2]
  refine (shapeCast_apply _ shapeCasts_S8x1x16384_S131072x1 (ix2 r (0 : Fin 1))
    (ix3 (⟨r.val / 16384, by omega⟩ : Fin 8) (0 : Fin 1) (⟨r.val % 16384, by omega⟩ : Fin 16384)) ?_).trans ?_
  · rw [Shape.rowMajor_val_two, Shape.rowMajor_val_three]
    show (r.val / 16384 * 1 + 0) * 16384 + r.val % 16384 = r.val * 1 + 0
    omega
  · rw [← D.laneOut_eq_out]
    unfold rowResults
    refine congrArg (fun r : Fin 131072 => ((D.laneOut r : ℝ) : EReal)) (Fin.ext ?_)
    show 16384 * (r.val / 16384) + r.val % 16384 = r.val
    omega

end Cert.KernelIdeal.Value

end
-- ==== Proof.ReferenceIdeal.Layers.lean ====
/-
  The reference's five linear layers: each entry is the real layer's.
-/
module

public import proofs.«01_k».proof.Proof.Gen.ReferenceIdeal.Read
public import proofs.«01_k».proof.Proof.Fusion.Cast
public import Idealize.ShloMosaic.Lib.ValueIdx

@[expose] public section

open Idealize.ShloMosaic Idealize.ShloMosaic.ValueIdx Fusion
open scoped BigOperators

namespace Cert.ReferenceIdeal.Value

open Cert.ReferenceIdeal Cert.ReferenceIdeal.Read

/-- The contents of the arrays of a layer. -/
abbrev Rows := (⟨S131072x256, .f32⟩ : BufTy).Contents (Elt Ideal)
abbrev Weights := (⟨S128x256, .f32⟩ : BufTy).Contents (Elt Ideal)
abbrev Bias := (⟨S128, .f32⟩ : BufTy).Contents (Elt Ideal)
abbrev Labels := (⟨S131072, .i32⟩ : BufTy).Contents (Elt Ideal)

/-- An entry of a layer. -/
theorem layer_apply (x : Rows) (w : Weights) (b : Bias) (xr : Fin 131072 → Fin 256 → ℝ) (wr : Fin 128 → Fin 256 → ℝ) (br : Fin 128 → ℝ)
    (hx : ∀ r k, x (ix2 r k) = ((xr r k : ℝ) : EReal)) (hw : ∀ f k, w (ix2 f k) = ((wr f k : ℝ) : EReal))
    (hb : ∀ f, b (ix1 f) = ((br f : ℝ) : EReal)) (r : Fin 131072) (f : Fin 128) :
    val_main_v4 (F := Ideal) x w b (ix2 r f) = ((lin xr wr br r f : ℝ) : EReal) := by
  have e1 : ∀ k, lidx_main_v1 (ix2 r f) k = ix2 r k := fun k => eq_ix2 _
  have e2 : ∀ k, idx_main_v0 (ridx_main_v1 (ix2 r f) k) = ix2 f k := fun k => eq_ix2 _
  have e3 : idx_main_v2 (idx_main_v3 (ix2 r f)) = ix1 f := eq_ix1 _
  rw [val_main_v4_apply, val_main_v1_apply, val_main_v3_apply, val_main_v2_apply, e3, hb]
  simp only [val_main_v0_apply, e1, e2, hx, hw, ← EReal.coe_mul]
  rw [coe_sum]
  exact (EReal.coe_add _ _).symm

/-- The five layers are one function. -/
theorem v14_eq (x : Rows) (w : Weights) (b : Bias) : val_main_v14 (F := Ideal) x w b = val_main_v4 (F := Ideal) x w b := rfl
theorem v19_eq (x : Rows) (w : Weights) (b : Bias) : val_main_v19 (F := Ideal) x w b = val_main_v4 (F := Ideal) x w b := rfl
theorem v24_eq (x : Rows) (w : Weights) (b : Bias) : val_main_v24 (F := Ideal) x w b = val_main_v4 (F := Ideal) x w b := rfl
theorem v29_eq (x : Rows) (w : Weights) (b : Bias) : val_main_v29 (F := Ideal) x w b = val_main_v4 (F := Ideal) x w b := rfl

/-- The image half's statistic is the text half's at the image arrays. -/
theorem v111_eq (x : Rows) (l : Labels) (w : Weights) (b : Bias) :
    val_main_v111 (F := Ideal) x l w b = val_main_v72 (F := Ideal) x l w b := rfl

end Cert.ReferenceIdeal.Value
-- ==== Proof.ReferenceIdeal.Counts.lean ====
/-
  The reference's statistic: the scatter counts, for each feature, the rows with each pair of gate and label, and the cells of that table give
  the real statistic.
-/
module

public import proofs.«01_k».proof.Proof.ReferenceIdeal.Layers
public import Idealize.ShloMosaic.Lib.Routing.OpsPair
public import Idealize.ShloMosaic.Lib.ValueIdxRank1

@[expose] public section

open Idealize.ShloMosaic Idealize.ShloMosaic.ValueIdx Fusion
open Idealize.ShloMosaic.Routing (resultIdx?_ix1)
open scoped BigOperators

namespace Cert.ReferenceIdeal.Value

open Cert.ReferenceIdeal Cert.ReferenceIdeal.Facts₀ Cert.ReferenceIdeal.Read

/-! ## A row and a feature's bin -/

/-- The number of the bin of feature `f` with a gate and a label. -/
def binNo (f : Fin 128) (g l : Bool) : ℕ := 4 * f.val + (2 * g.toNat + l.toNat)

theorem binNo_lt (f : Fin 128) (g l : Bool) : binNo f g l < 512 := by
  have := g.toNat_le; have := l.toNat_le; unfold binNo; omega

/-- A bin's number says its feature, gate and label. -/
theorem binNo_inj {f f' : Fin 128} {g g' l l' : Bool} : binNo f g l = binNo f' g' l' ↔ f = f' ∧ g = g' ∧ l = l' := by
  constructor
  · intro h
    cases g <;> cases g' <;> cases l <;> cases l' <;> simp only [binNo, Bool.toNat_true, Bool.toNat_false] at h <;>
      first | exact ⟨Fin.ext (by omega), rfl, rfl⟩ | omega
  · rintro ⟨rfl, rfl, rfl⟩; rfl

/-- The bin's word, as the program puts it together. -/
theorem bin_word (f : Fin 128) (g l : Bool) :
    IntOp.addi (IntOp.addi (IntOp.muli ((BitVec.ofBool g).setWidth 32) 2#32) ((BitVec.ofBool l).setWidth 32))
      (IntOp.muli 4#32 (BitVec.ofNat 32 f.val)) = BitVec.ofNat 32 (binNo f g l) := by
  have hf := f.isLt
  have hm : IntOp.muli 4#32 (BitVec.ofNat 32 f.val) = BitVec.ofNat 32 (4 * f.val) := by
    unfold IntOp.muli
    apply BitVec.eq_of_toNat_eq
    simp only [BitVec.toNat_mul, BitVec.toNat_ofNat]; omega
  rw [hm]
  have hs : IntOp.addi (IntOp.muli ((BitVec.ofBool g).setWidth 32) 2#32) ((BitVec.ofBool l).setWidth 32) = BitVec.ofNat 32 (2 * g.toNat + l.toNat) := by
    cases g <;> cases l <;> rfl
  rw [hs]
  unfold IntOp.addi
  have := g.toNat_le; have := l.toNat_le
  apply BitVec.eq_of_toNat_eq
  simp only [BitVec.toNat_add, BitVec.toNat_ofNat, binNo]; omega

/-- A word below 512 read signed. -/
theorem toInt_small {n : ℕ} (h : n < 512) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-! ## The counts -/

section

variable (x : Rows) (l : Labels) (w : Weights) (b : Bias) (V : Fin 131072 → Fin 128 → ℝ) (lab : Fin 131072 → Bool)
  (hV : ∀ r f, val_main_v14 (F := Ideal) x w b (ix2 r f) = ((V r f : ℝ) : EReal))
  (hl : ∀ r, l (ix1 r) = (BitVec.ofBool (lab r)).setWidth 32)

include hV hl

/-- The bin an entry counts in. -/
theorem v47_apply (r : Fin 131072) (f : Fin 128) :
    val_main_v47 (F := Ideal) x l w b (ix2 r f) = BitVec.ofNat 32 (binNo f (decide (thr < V r f)) (lab r)) := by
  have e1 : idx_main_v39 (idx_main_v40 (ix2 r f)) = ix1 r := eq_ix1 _
  have e2 : idx_main_v43 (idx_main_v46 (ix2 r f)) = ix1 f := eq_ix1 _
  have hc : FloatOps.cmpf (F := Ideal) (φ := .f32) .ogt ((V r f : ℝ) : EReal) (FloatOps.ofBits .f32 0x3F333333#32)
      = BitVec.ofBool (decide (thr < V r f)) := by
    show Ideal.cmp .ogt ((V r f : ℝ) : EReal) (Ideal.ofBits .f32 0x3F333333#32) = _
    rw [ofBits_thr, cmp_thr]
    by_cases h : thr < V r f
    · rw [if_pos h, decide_eq_true h]; rfl
    · rw [if_neg h, decide_eq_false h]; rfl
  rw [val_main_v47_apply, val_main_v41_apply, val_main_v38_apply, val_main_v36_apply, val_main_v35_apply, val_main_v34_apply, val_main_cst_apply,
    hV, hc, val_main_v37_apply, val_main_c_apply, val_main_v40_apply, val_main_v39_apply, e1, hl, val_main_v46_apply, val_main_v45_apply,
    val_main_v44_apply, val_main_c_0_apply, val_main_v43_apply, val_main_v42_apply, e2]
  exact bin_word f _ _

/-- Where an update lands. -/
theorem lands (r : Fin 131072) (f : Fin 128) (j : Fin 16777216) (hj : j.val = r.val * 128 + f.val) (n : Fin 512) :
    scatter_S512_S16777216x1_S16777216_n_0_0_1.resultIdx? (ix1 j) (val_main_v51 (F := Ideal) x l w b) = some (ix1 n)
      ↔ binNo f (decide (thr < V r f)) (lab r) = n.val := by
  have hf := f.isLt
  rw [resultIdx?_ix1]
  have hw : scatter_S512_S16777216x1_S16777216_n_0_0_1.window (ix1 j) 0 = 0 := by
    unfold ScatterDims.window; rw [dif_neg (by decide)]
  have hs : scatter_S512_S16777216x1_S16777216_n_0_0_1.start (ix1 j) (val_main_v51 (F := Ideal) x l w b) 0
      = (val_main_v51 (F := Ideal) x l w b (ix2 j (0 : Fin 1))).toInt := by
    unfold ScatterDims.start
    rw [dif_pos (show (0 : Fin S512.rank) ∈ scatter_S512_S16777216x1_S16777216_n_0_0_1.scatterDimsToOperandDims by decide)]
    refine congrArg (fun i => (val_main_v51 (F := Ideal) x l w b i).toInt) (funext fun a => Fin.ext ?_)
    match a with
    | ⟨0, _⟩ => rfl
    | ⟨1, _⟩ => rfl
  have e1 : idx_main_v48 (idx_main_v51 (ix2 j (0 : Fin 1))) = ix2 r f :=
    (eq_ix2 _).trans (congrArg₂ ix2 (Fin.ext (by show j.val / 128 = r.val; omega)) (Fin.ext (by show j.val % 128 = f.val; omega)))
  rw [hw, hs, val_main_v51_apply, val_main_v48_apply, e1, v47_apply x l w b V lab hV hl, toInt_small (binNo_lt ..)]
  simp

end

/-- A sum over a vector of as many elements as a matrix has, row by row. -/
theorem sum_flat {M : Type} [AddCommMonoid M] {N A B : ℕ} (h : A * B = N) (F : (⟨1, ![N]⟩ : Shape).Idx → M)
    (hlt : ∀ (a : Fin A) (c : Fin B), a.val * B + c.val < N) :
    ∑ j, F j = ∑ a : Fin A, ∑ c : Fin B, F (ix1 ⟨a.val * B + c.val, hlt a c⟩) := by
  subst h
  rw [Fintype.sum_equiv (idxEquiv1 (n := A * B)) F (fun j => F (ix1 j)) fun j => congrArg F (eq_ix1 j),
    ← Fintype.sum_equiv finProdFinEquiv (fun p : Fin A × Fin B => F (ix1 (finProdFinEquiv p))) _ fun _ => rfl, Fintype.sum_prod_type]
  refine Finset.sum_congr rfl fun a _ => Finset.sum_congr rfl fun c _ => congrArg (fun k => F (ix1 k)) (Fin.ext ?_)
  show c.val + B * a.val = a.val * B + c.val
  rw [Nat.mul_comm, Nat.add_comm]

/-- Counting by scatter: ones added into a vector from a zero element count, at that element, the updates that land there. -/
theorem scatter_count {N A B C : ℕ} (h : A * B = N) (d : ScatterDims ⟨1, ![C]⟩ ⟨2, ![N, 1]⟩ ⟨1, ![N]⟩)
    (x0 : (⟨1, ![C]⟩ : Shape).Idx → EReal) (idx : IVec ⟨2, ![N, 1]⟩ 32) (upd : (⟨1, ![N]⟩ : Shape).Idx → EReal) (n : Fin C)
    (P : Fin A → Fin B → Prop) [∀ a c, Decidable (P a c)] (hlt : ∀ (a : Fin A) (c : Fin B), a.val * B + c.val < N)
    (hP : ∀ a c, d.resultIdx? (ix1 ⟨a.val * B + c.val, hlt a c⟩) idx = some (ix1 n) ↔ P a c)
    (h0 : x0 (ix1 n) = ((0 : ℝ) : EReal)) (h1 : ∀ i, upd i = ((1 : ℝ) : EReal)) :
    Ideal.hostScatterAdd d x0 idx upd (ix1 n) = ((∑ a, ∑ c, (if P a c then 1 else 0 : ℝ) : ℝ) : EReal) := by
  unfold Ideal.hostScatterAdd
  rw [h0, Finset.sum_filter, sum_flat h _ hlt]
  have hterm : ∀ (a : Fin A) (c : Fin B),
      (if d.resultIdx? (ix1 ⟨a.val * B + c.val, hlt a c⟩) idx = some (ix1 n) then upd (ix1 ⟨a.val * B + c.val, hlt a c⟩) else (0 : EReal))
      = (((if P a c then 1 else 0 : ℝ)) : EReal) := fun a c => by
    by_cases e : P a c
    · rw [if_pos ((hP a c).2 e), if_pos e, h1]
    · rw [if_neg fun q => e ((hP a c).1 q), if_neg e, EReal.coe_zero]
  simp only [hterm, coe_sum]
  rw [← EReal.coe_add, zero_add]

/-- The number of rows with a gate and a label. -/
noncomputable def count (V : Fin 131072 → Fin 128 → ℝ) (lab : Fin 131072 → Bool) (f : Fin 128) (g m : Bool) : ℝ :=
  ∑ r, if decide (thr < V r f) = g ∧ lab r = m then 1 else 0

/-- The same with the feature found among all. -/
theorem count_eq (V : Fin 131072 → Fin 128 → ℝ) (lab : Fin 131072 → Bool) (f : Fin 128) (g m : Bool) :
    (∑ r : Fin 131072, ∑ k : Fin 128, (if k = f ∧ decide (thr < V r k) = g ∧ lab r = m then 1 else 0 : ℝ)) = count V lab f g m := by
  unfold count
  refine Finset.sum_congr rfl fun r _ => ?_
  rw [Finset.sum_eq_single f]
  · simp
  · intro f' _ hne; rw [if_neg fun e => hne e.1]
  · intro h; exact absurd (Finset.mem_univ _) h

/-- The scatter of an ideal program adds up what lands. -/
theorem scatterAdd_apply {s si su : Shape} (d : ScatterDims s si su) (x : FVec Ideal s .f32) (idx : IVec si 32) (upd : FVec Ideal su .f32) (i : s.Idx) :
    Host.scatterAdd d x idx upd i = Ideal.hostScatterAdd d x idx upd i := rfl

theorem v52_eq (x : Rows) (l : Labels) (w : Weights) (b : Bias) :
    val_main_v52 (F := Ideal) x l w b = Host.scatterAdd (F := Ideal) (φ := .f32) scatter_S512_S16777216x1_S16777216_n_0_0_1
      (val_main_v50 (F := Ideal)) (val_main_v51 (F := Ideal) x l w b) (val_main_v49 (F := Ideal)) := rfl

theorem v49_one (i : S16777216.Idx) : val_main_v49 (F := Ideal) i = ((1 : ℝ) : EReal) := by
  rw [val_main_v49_apply, val_main_cst_1_apply]; exact ofBits_one

theorem v50_zero (i : S512.Idx) : val_main_v50 (F := Ideal) i = ((0 : ℝ) : EReal) := by
  rw [val_main_v50_apply, val_main_cst_2_apply]; exact ofBits_zero

section

variable (x : Rows) (l : Labels) (w : Weights) (b : Bias) (V : Fin 131072 → Fin 128 → ℝ) (lab : Fin 131072 → Bool)
  (hV : ∀ r f, val_main_v14 (F := Ideal) x w b (ix2 r f) = ((V r f : ℝ) : EReal))
  (hl : ∀ r, l (ix1 r) = (BitVec.ofBool (lab r)).setWidth 32)

include hV hl

theorem v52_apply (f : Fin 128) (g m : Bool) (n : Fin 512) (hn : n.val = binNo f g m) :
    val_main_v52 (F := Ideal) x l w b (ix1 n) = ((count V lab f g m : ℝ) : EReal) := by
  have hP := fun (r : Fin 131072) (k : Fin 128) (hlt : r.val * 128 + k.val < 16777216) =>
    (lands x l w b V lab hV hl r k ⟨r.val * 128 + k.val, hlt⟩ rfl n).trans
      (by rw [hn]; exact binNo_inj : _ ↔ k = f ∧ decide (thr < V r k) = g ∧ lab r = m)
  have e := (congrFun (v52_eq x l w b) (ix1 n)).trans (scatterAdd_apply scatter_S512_S16777216x1_S16777216_n_0_0_1 (val_main_v50 (F := Ideal))
    (val_main_v51 (F := Ideal) x l w b) (val_main_v49 (F := Ideal)) (ix1 n))
  have key := scatter_count (N := 16777216) (A := 131072) (B := 128) (C := 512) (by norm_num) scatter_S512_S16777216x1_S16777216_n_0_0_1
    (val_main_v50 (F := Ideal)) (val_main_v51 (F := Ideal) x l w b) (val_main_v49 (F := Ideal)) n
    (fun r k => k = f ∧ decide (thr < V r k) = g ∧ lab r = m) (fun r k => by omega) (fun r k => hP r k _) (v50_zero _) v49_one
  rw [e, key, count_eq]

/-- A cell's observed count. -/
theorem v53_apply (f : Fin 128) (g m : Fin 2) :
    val_main_v53 (F := Ideal) x l w b (ix3 f g m) = ((count V lab f (g == 1) (m == 1) : ℝ) : EReal) := by
  rw [val_main_v53_apply]
  have e : idx_main_v53 (ix3 f g m) = ix1 ⟨(f.val * 2 + g.val) * 2 + m.val, by omega⟩ := eq_ix1 _
  rw [e]
  refine v52_apply x l w b V lab hV hl f _ _ _ ?_
  have hb : ∀ a : Fin 2, (a == 1).toNat = a.val := by decide
  show (f.val * 2 + g.val) * 2 + m.val = binNo f (g == 1) (m == 1)
  rw [binNo, hb, hb]; omega

end

/-! ## The counts from three sums -/

section

variable (V : Fin 131072 → Fin 128 → ℝ) (lab : Fin 131072 → Bool) (f : Fin 128)

theorem count_tt : count V lab f true true = gatedLab lab (fun r k => V r k) f := by
  unfold count gatedLab gate labR
  refine Finset.sum_congr rfl fun r _ => ?_
  by_cases h : thr < V r f <;> cases lab r <;> simp [h]

theorem count_tf : count V lab f true false = gated V f - gatedLab lab V f := by
  unfold count gated gatedLab gate labR
  rw [← Finset.sum_sub_distrib]
  refine Finset.sum_congr rfl fun r _ => ?_
  by_cases h : thr < V r f <;> cases lab r <;> simp [h]

theorem count_ft : count V lab f false true = labelled lab - gatedLab lab V f := by
  unfold count labelled gatedLab gate labR
  rw [← Finset.sum_sub_distrib]
  refine Finset.sum_congr rfl fun r _ => ?_
  by_cases h : thr < V r f <;> cases lab r <;> simp [h]

theorem count_ff : count V lab f false false = rows - gated V f - labelled lab + gatedLab lab V f := by
  have hr : rows = ∑ _r : Fin 131072, (1 : ℝ) := by simp [rows]
  rw [hr]
  unfold count gated labelled gatedLab gate labR
  rw [← Finset.sum_sub_distrib, ← Finset.sum_sub_distrib, ← Finset.sum_add_distrib]
  refine Finset.sum_congr rfl fun r _ => ?_
  by_cases h : thr < V r f <;> cases lab r <;> simp [h]

end

/-! ## The statistic -/

/-- A sum over the last two axes of a block of two by two tables. -/
theorem sum_tables (h : S128x2x2.ReducesTo [1, 2] S128) (y : S128x2x2.Idx → EReal) (c : EReal) (f : Fin 128) :
    Ideal.hostReduceAdd h y c (ix1 f) = c + (y (ix3 f 0 0) + y (ix3 f 0 1) + (y (ix3 f 1 0) + y (ix3 f 1 1))) := by
  unfold Ideal.hostReduceAdd
  refine congrArg (c + ·) ?_
  have hs : (Finset.univ.filter fun i => h.drop i = ix1 f) = Finset.univ.image fun p : Fin 2 × Fin 2 => (ix3 f p.1 p.2 : S128x2x2.Idx) := by
    ext i
    simp only [Finset.mem_filter, Finset.mem_univ, true_and, Finset.mem_image, Prod.exists]
    constructor
    · intro e
      refine ⟨i 1, i 2, ?_⟩
      have e0 : i 0 = f := Fin.ext (congrArg (fun j : S128.Idx => (j 0).val) e)
      rw [← e0]; exact (eq_ix3 i).symm
    · rintro ⟨a, c, rfl⟩
      exact (eq_ix1 _).trans rfl
  rw [hs, Finset.sum_image]
  · rw [Fintype.sum_prod_type]; simp only [Fin.sum_univ_two]
  · rintro ⟨a, c⟩ _ ⟨a', c'⟩ _ e
    exact Prod.ext (congrFun e 1) (congrFun e 2)

section

variable (x : Rows) (l : Labels) (w : Weights) (b : Bias) (V : Fin 131072 → Fin 128 → ℝ) (lab : Fin 131072 → Bool)
  (hV : ∀ r f, val_main_v14 (F := Ideal) x w b (ix2 r f) = ((V r f : ℝ) : EReal))
  (hl : ∀ r, l (ix1 r) = (BitVec.ofBool (lab r)).setWidth 32)

include hV hl

/-- The rows in a feature's table. -/
theorem v54_apply (f : Fin 128) : val_main_v54 (F := Ideal) x l w b (ix1 f) = ((rows : ℝ) : EReal) := by
  have hc : val_main_cst_3 (F := Ideal) (Shape.Idx.first h_S_) = ((0 : ℝ) : EReal) := by rw [val_main_cst_3_apply]; exact ofBits_zero
  have e : val_main_v54 (F := Ideal) x l w b (ix1 f) = Ideal.hostReduceAdd reducesTo_S128x2x2_S128_d1_2 (val_main_v53 (F := Ideal) x l w b)
    (val_main_cst_3 (F := Ideal) (Shape.Idx.first h_S_)) (ix1 f) := rfl
  rw [e, sum_tables, hc]
  simp only [v53_apply x l w b V lab hV hl]
  simp only [← EReal.coe_add]
  refine congrArg _ ?_
  show 0 + (count V lab f false false + count V lab f false true + (count V lab f true false + count V lab f true true)) = rows
  rw [count_ff, count_ft, count_tf, count_tt]; ring

/-- The rows with a label. -/
theorem v55_apply (f : Fin 128) (m : Fin 2) :
    val_main_v55 (F := Ideal) x l w b (ix2 f m) = (((if m = 1 then labelled lab else rows - labelled lab : ℝ)) : EReal) := by
  have hc : val_main_cst_4 (F := Ideal) (Shape.Idx.first h_S_) = ((0 : ℝ) : EReal) := by rw [val_main_cst_4_apply]; exact ofBits_zero
  have e : ∀ k : Fin 2, idx_main_v55 (ix2 f m) k = ix3 f k m := fun k => eq_ix3 _
  rw [val_main_v55_apply, hc]
  simp only [e, v53_apply x l w b V lab hV hl, Fin.sum_univ_two, ← EReal.coe_add]
  refine congrArg _ ?_
  match m with
  | 0 =>
    show 0 + (count V lab f false false + count V lab f true false) = rows - labelled lab
    rw [count_ff, count_tf]; ring
  | 1 =>
    show 0 + (count V lab f false true + count V lab f true true) = labelled lab
    rw [count_ft, count_tt]; ring

/-- The rows with a gate. -/
theorem v56_apply (f : Fin 128) (g : Fin 2) :
    val_main_v56 (F := Ideal) x l w b (ix2 f g) = (((if g = 1 then gated V f else rows - gated V f : ℝ)) : EReal) := by
  have hc : val_main_cst_5 (F := Ideal) (Shape.Idx.first h_S_) = ((0 : ℝ) : EReal) := by rw [val_main_cst_5_apply]; exact ofBits_zero
  have e : ∀ k : Fin 2, idx_main_v56 (ix2 f g) k = ix3 f g k := fun k => eq_ix3 _
  rw [val_main_v56_apply, hc]
  simp only [e, v53_apply x l w b V lab hV hl, Fin.sum_univ_two, ← EReal.coe_add]
  refine congrArg _ ?_
  match g with
  | 0 =>
    show 0 + (count V lab f false false + count V lab f false true) = rows - gated V f
    rw [count_ff, count_ft]; ring
  | 1 =>
    show 0 + (count V lab f true false + count V lab f true true) = gated V f
    rw [count_tf, count_tt]; ring

/-- One cell: the observed count against the product of the label's rows (first coordinate) and the gate's rows (second) over the total. -/
theorem v71_apply (f : Fin 128) (i j : Fin 2) (c p q : ℝ) (hc : count V lab f (i == 1) (j == 1) = c)
    (hp : (if i = 1 then labelled lab else rows - labelled lab) = p) (hq : (if j = 1 then gated V f else rows - gated V f) = q)
    (hp0 : 0 ≤ p) (hq0 : 0 ≤ q) :
    val_main_v71 (F := Ideal) x l w b (ix3 f i j) = ((cell c (p * q / (rows + eps)) : ℝ) : EReal) := by
  have e1 : idx_main_v57 (idx_main_v59 (ix3 f i j)) = ix2 f i := eq_ix2 _
  have e2 : idx_main_v58 (idx_main_v60 (ix3 f i j)) = ix2 f j := eq_ix2 _
  have e3 : idx_main_v62 (idx_main_v65 (ix3 f i j)) = ix1 f := eq_ix1 _
  have h65 : val_main_v65 (F := Ideal) x l w b (ix3 f i j) = ((rows + eps : ℝ) : EReal) := by
    rw [val_main_v65_apply, val_main_v64_apply, val_main_v62_apply, e3, v54_apply x l w b V lab hV hl, val_main_v63_apply, val_main_cst_6_apply]
    show ((rows : ℝ) : EReal) + Ideal.ofBits .f32 0x358637BD#32 = _
    rw [ofBits_eps, ← EReal.coe_add]
  have h61 : val_main_v61 (F := Ideal) x l w b (ix3 f i j) = ((p * q : ℝ) : EReal) := by
    rw [val_main_v61_apply, val_main_v59_apply, val_main_v57_apply, e1, v55_apply x l w b V lab hV hl, val_main_v60_apply, val_main_v58_apply, e2,
      v56_apply x l w b V lab hV hl, hp, hq]
    exact (EReal.coe_mul _ _).symm
  have h66 : val_main_v66 (F := Ideal) x l w b (ix3 f i j) = ((p * q / (rows + eps) : ℝ) : EReal) := by
    rw [val_main_v66_apply, h61, h65]
    exact coe_div _ rows_eps_pos.ne'
  have h53 := v53_apply x l w b V lab hV hl f i j
  rw [hc] at h53
  rw [val_main_v71_apply, val_main_v68_apply, val_main_v67_apply, val_main_v70_apply, val_main_v69_apply, val_main_cst_7_apply, h66, h53]
  have h := coe_cell c (expect_nonneg hp0 hq0)
  rw [← ofBits_eps] at h
  exact h

/-- The statistic of a feature. -/
theorem v72_apply (f : Fin 128) : val_main_v72 (F := Ideal) x l w b (ix1 f) = ((chi lab V f : ℝ) : EReal) := by
  have hc : val_main_cst_8 (F := Ideal) (Shape.Idx.first h_S_) = ((0 : ℝ) : EReal) := by rw [val_main_cst_8_apply]; exact ofBits_zero
  have e : val_main_v72 (F := Ideal) x l w b (ix1 f) = Ideal.hostReduceAdd reducesTo_S128x2x2_S128_d1_2 (val_main_v71 (F := Ideal) x l w b)
    (val_main_cst_8 (F := Ideal) (Shape.Idx.first h_S_)) (ix1 f) := rfl
  have g1 := gated_nonneg V f
  have g2 := sub_nonneg.2 (gated_le V f)
  have l1 := labelled_nonneg lab
  have l2 := sub_nonneg.2 (labelled_le lab)
  rw [e, sum_tables, hc, v71_apply x l w b V lab hV hl f 0 0 _ _ _ (count_ff V lab f) (if_neg (by decide)) (if_neg (by decide)) l2 g2,
    v71_apply x l w b V lab hV hl f 0 1 _ _ _ (count_ft V lab f) (if_neg (by decide)) (if_pos rfl) l2 g1,
    v71_apply x l w b V lab hV hl f 1 0 _ _ _ (count_tf V lab f) (if_pos rfl) (if_neg (by decide)) l1 g2,
    v71_apply x l w b V lab hV hl f 1 1 _ _ _ (count_tt V lab f) (if_pos rfl) (if_pos rfl) l1 g1]
  simp only [← EReal.coe_add]
  refine congrArg _ ?_
  unfold chi chiOf; ring

end

end Cert.ReferenceIdeal.Value
-- ==== Proof.ReferenceIdeal.Output.lean ====
/-
  What the reference computes: where the arrays hold real numbers, row `r` of the result is the real result `Data.out` of that row.
-/
module

public import proofs.«01_k».proof.Proof.ReferenceIdeal.Counts
public import proofs.«01_k».proof.Proof.Fusion.Holds

@[expose] public section

open Idealize.ShloMosaic Idealize.ShloMosaic.ValueIdx Fusion
open scoped BigOperators

namespace Cert.ReferenceIdeal.Value

open Cert.ReferenceIdeal Cert.ReferenceIdeal.Facts₀ Cert.ReferenceIdeal.Read

/-- The host's maximum over a vector of 128 real numbers, from the least element. -/
theorem hostMax_apply (h' : S128.ReducesTo [0] S_) (y : S128.Idx → EReal) (c : S_.Idx → EReal) (hu : 0 < S_.numel) (g : Fin 128 → ℝ)
    (hc : ∀ i, c i = ⊥) (hy : ∀ f, y (ix1 f) = ((g f : ℝ) : EReal)) :
    Host.reduce (FloatOps.maximumf (F := Ideal) (φ := .f32)) y c h' hu ix0 = ((top g : ℝ) : EReal) := by
  have hs : ∀ j : S_.Idx, j = ix0 := fun j => eq_ix0 j
  rw [Host.reduce_eq_fold, hc, ← fold_max, Finset.filter_true_of_mem fun i _ => hs _, ← Finset.map_univ_equiv (idxEquiv1 (n := 128)).symm,
    Finset.fold_map]
  exact Finset.fold_congr fun k _ => hy k

/-- A head and its dimension read in a row of 128. -/
theorem split_row (r : Fin 131072) (h : Fin 4) (d : Fin 32) : idx_main_v30 (ix3 r h d) = ix2 r (feat h d) := by
  refine (eq_ix2 _).trans (congrArg₂ ix2 (Fin.ext ?_) (Fin.ext ?_))
  · show ((r.val * 4 + h.val) * 32 + d.val) / 128 = r.val; omega
  · show ((r.val * 4 + h.val) * 32 + d.val) % 128 = 32 * h.val + d.val; omega

section

variable {D : Data} {a0 a1 : Mat 131072 256} {a2 : Words 131072} {a3 : Mat 128 256} {a4 : Vect 128} {a7 : Mat 128 256} {a8 : Vect 128}
  {a9 : Mat 128 256} {a10 : Vect 128} {a11 : Mat 128 256} {a12 : Vect 128} {a13 : Mat 128 256} {a14 : Vect 128} {a15 : Mat 4 64} {a16 : Vect 4}
  {a17 : Mat 1 384} {a18 : Vect 1}
  (H : Holds D a0 a1 a2 a3 a4 a7 a8 a9 a10 a11 a12 a13 a14 a15 a16 a17 a18)

include H

theorem tQ_apply (r : Fin 131072) (f : Fin 128) : val_main_v4 (F := Ideal) a0 a3 a4 (ix2 r f) = ((D.tQ r f : ℝ) : EReal) :=
  layer_apply a0 a3 a4 _ _ _ H.xt H.tq.w H.tq.b r f
theorem tV_apply (r : Fin 131072) (f : Fin 128) : val_main_v14 (F := Ideal) a0 a7 a8 (ix2 r f) = ((D.tV r f : ℝ) : EReal) :=
  (congrFun (v14_eq a0 a7 a8) _).trans (layer_apply a0 a7 a8 _ _ _ H.xt H.tv.w H.tv.b r f)
theorem iQ_apply (r : Fin 131072) (f : Fin 128) : val_main_v19 (F := Ideal) a1 a9 a10 (ix2 r f) = ((D.iQ r f : ℝ) : EReal) :=
  (congrFun (v19_eq a1 a9 a10) _).trans (layer_apply a1 a9 a10 _ _ _ H.xi H.iq.w H.iq.b r f)
theorem iK_apply (r : Fin 131072) (f : Fin 128) : val_main_v24 (F := Ideal) a1 a11 a12 (ix2 r f) = ((D.iK r f : ℝ) : EReal) :=
  (congrFun (v24_eq a1 a11 a12) _).trans (layer_apply a1 a11 a12 _ _ _ H.xi H.ik.w H.ik.b r f)
theorem iV_apply (r : Fin 131072) (f : Fin 128) : val_main_v29 (F := Ideal) a1 a13 a14 (ix2 r f) = ((D.iV r f : ℝ) : EReal) :=
  (congrFun (v29_eq a1 a13 a14) _).trans (layer_apply a1 a13 a14 _ _ _ H.xi H.iv.w H.iv.b r f)

/-! ## The head weights -/

theorem chiT_apply (f : Fin 128) : val_main_v72 (F := Ideal) a0 a2 a7 a8 (ix1 f) = ((D.chiT f : ℝ) : EReal) :=
  v72_apply a0 a2 a7 a8 D.tV D.lab (tV_apply H) H.lab f

theorem chiI_apply (f : Fin 128) : val_main_v111 (F := Ideal) a1 a2 a13 a14 (ix1 f) = ((D.chiI f : ℝ) : EReal) :=
  (congrFun (v111_eq a1 a2 a13 a14) _).trans (v72_apply a1 a2 a13 a14 D.iV D.lab
    (fun r f => (congrFun (v14_eq a1 a13 a14) _).trans (layer_apply a1 a13 a14 _ _ _ H.xi H.iv.w H.iv.b r f)) H.lab f)

theorem peak_apply : val_main_v114 (F := Ideal) a0 a1 a2 a7 a8 a13 a14 ix0 = ((D.peak : ℝ) : EReal) := by
  have h1 : val_main_v112 (F := Ideal) a0 a2 a7 a8 ix0 = ((top D.chiT : ℝ) : EReal) := by
    unfold val_main_v112
    exact hostMax_apply reducesTo_S128_S_d0 _ _ h_S_ D.chiT (fun i => by rw [val_main_cst_20_apply]; exact ofBits_bot) (chiT_apply H)
  have h2 : val_main_v113 (F := Ideal) a1 a2 a13 a14 ix0 = ((top D.chiI : ℝ) : EReal) := by
    unfold val_main_v113
    exact hostMax_apply reducesTo_S128_S_d0 _ _ h_S_ D.chiI (fun i => by rw [val_main_cst_21_apply]; exact ofBits_bot) (chiI_apply H)
  rw [val_main_v114_apply, h1, h2]
  exact (EReal.coe_strictMono.monotone.map_max).symm

theorem alphaT_apply (h : Fin 4) : val_main_v118 (F := Ideal) a0 a1 a2 a7 a8 a13 a14 (ix1 h) = ((D.alphaT (Data.headFeat h) : ℝ) : EReal) := by
  have e1 : idx_main_v118 (ix1 h) = ix1 (Data.headFeat h) := eq_ix1 _
  have e2 : ∀ i, idx_main_v116 i = ix0 := fun i => eq_ix0 _
  rw [val_main_v118_apply, e1, val_main_v117_apply, chiT_apply H, val_main_v116_apply, e2, val_main_v115_apply, peak_apply H, val_main_cst_22_apply]
  show Ideal.div _ (((D.peak : ℝ) : EReal) + Ideal.ofBits .f32 0x358637BD#32) = _
  rw [ofBits_eps, ← EReal.coe_add]
  exact coe_div _ D.peak_eps_pos.ne'

theorem alphaI_apply (h : Fin 4) : val_main_v122 (F := Ideal) a0 a1 a2 a7 a8 a13 a14 (ix1 h) = ((D.alphaI (Data.headFeat h) : ℝ) : EReal) := by
  have e1 : idx_main_v122 (ix1 h) = ix1 (Data.headFeat h) := eq_ix1 _
  have e2 : ∀ i, idx_main_v120 i = ix0 := fun i => eq_ix0 _
  rw [val_main_v122_apply, e1, val_main_v121_apply, chiI_apply H, val_main_v120_apply, e2, val_main_v119_apply, peak_apply H, val_main_cst_23_apply]
  show Ideal.div _ (((D.peak : ℝ) : EReal) + Ideal.ofBits .f32 0x358637BD#32) = _
  rw [ofBits_eps, ← EReal.coe_add]
  exact coe_div _ D.peak_eps_pos.ne'

/-! ## The scores -/

/-- Queries and keys side by side: the first 32 are the head's text queries, the rest its image keys. -/
theorem v123_left (r : Fin 131072) (h : Fin 4) (d : Fin 32) :
    val_main_v123 (F := Ideal) a0 a1 a3 a4 a11 a12 (ix3 r h (⟨d.val, by omega⟩ : Fin 64)) = ((D.tQ r (feat h d) : ℝ) : EReal) := by
  unfold val_main_v123
  rw [concatenate_pair_apply_left (s₁ := S131072x4x32) (s₂ := S131072x4x32) (2 : Fin S131072x4x64.rank) _ _ _ _ rfl (ix3 r h d)
    (fun b => by match b with | ⟨0, _⟩ => rfl | ⟨1, _⟩ => rfl | ⟨2, _⟩ => rfl)]
  rw [val_main_v30_apply, split_row, tQ_apply H]

theorem v123_right (r : Fin 131072) (h : Fin 4) (d : Fin 32) :
    val_main_v123 (F := Ideal) a0 a1 a3 a4 a11 a12 (ix3 r h (⟨32 + d.val, by omega⟩ : Fin 64)) = ((D.iK r (feat h d) : ℝ) : EReal) := by
  have e : idx_main_v31 (ix3 r h d) = ix2 r (feat h d) := split_row r h d
  unfold val_main_v123
  rw [concatenate_pair_apply_right (s₁ := S131072x4x32) (s₂ := S131072x4x32) (2 : Fin S131072x4x64.rank) _ _ _ _ rfl rfl (ix3 r h d)
    (fun b hb => by match b with | ⟨0, _⟩ => rfl | ⟨1, _⟩ => rfl | ⟨2, _⟩ => exact absurd rfl hb) (Nat.add_comm _ _)]
  rw [val_main_v31_apply, e, iK_apply H]

theorem v124_apply (r : Fin 131072) (h : Fin 4) :
    val_main_v124 (F := Ideal) a0 a1 a3 a4 a11 a12 a15 (ix2 h r)
      = ((∑ d : Fin 32, D.tQ r (feat h d) * D.aw h ⟨d.val, by omega⟩ + ∑ d : Fin 32, D.iK r (feat h d) * D.aw h ⟨32 + d.val, by omega⟩ : ℝ) : EReal) := by
  have e1 : ∀ k, lidx_main_v124 (ix2 h r) k = ix2 h k := fun k => eq_ix2 _
  have e2 : ∀ k, ridx_main_v124 (ix2 h r) k = ix3 r h k := fun k => eq_ix3 _
  rw [val_main_v124_apply, Fin.sum_univ_add (a := 32) (b := 32)]
  have l : ∀ d : Fin 32, a15 (lidx_main_v124 (ix2 h r) (Fin.castAdd 32 d)) * val_main_v123 (F := Ideal) a0 a1 a3 a4 a11 a12 (ridx_main_v124 (ix2 h r) (Fin.castAdd 32 d))
      = ((D.tQ r (feat h d) * D.aw h ⟨d.val, by omega⟩ : ℝ) : EReal) := fun d => by
    rw [e1, e2, H.aw, show (Fin.castAdd 32 d : Fin 64) = ⟨d.val, by omega⟩ from rfl, v123_left H, ← EReal.coe_mul, mul_comm]
  have rr : ∀ d : Fin 32, a15 (lidx_main_v124 (ix2 h r) (Fin.natAdd 32 d)) * val_main_v123 (F := Ideal) a0 a1 a3 a4 a11 a12 (ridx_main_v124 (ix2 h r) (Fin.natAdd 32 d))
      = ((D.iK r (feat h d) * D.aw h ⟨32 + d.val, by omega⟩ : ℝ) : EReal) := fun d => by
    rw [e1, e2, H.aw, show (Fin.natAdd 32 d : Fin 64) = ⟨32 + d.val, by omega⟩ from rfl, v123_right H, ← EReal.coe_mul, mul_comm]
  rw [Finset.sum_congr rfl fun d _ => l d, Finset.sum_congr rfl fun d _ => rr d, coe_sum, coe_sum, ← EReal.coe_add]

theorem score_apply (r : Fin 131072) (h : Fin 4) :
    val_main_v134 (F := Ideal) a0 a1 a3 a4 a11 a12 a15 a16 (ix2 r h) = ((D.score r h : ℝ) : EReal) := by
  have e1 : idx_main_v125 (ix2 r h) = ix2 h r := eq_ix2 _
  have e2 : idx_main_v126 (idx_main_v127 (ix2 r h)) = ix1 h := eq_ix1 _
  have hx : val_main_v128 (F := Ideal) a0 a1 a3 a4 a11 a12 a15 a16 (ix2 r h) = ((D.logit r h : ℝ) : EReal) := by
    rw [val_main_v128_apply, val_main_v125_apply, e1, v124_apply H, val_main_v127_apply, val_main_v126_apply, e2, H.ab]
    exact (EReal.coe_add _ _).symm
  rw [val_main_v134_apply, val_main_v133_apply, val_main_cst_25_apply, val_main_v132_apply, val_main_v131_apply, val_main_cst_24_apply,
    val_main_v130_apply, val_main_v129_apply, hx]
  show Ideal.div (Ideal.ofBits .f32 0x3F800000#32) (Ideal.ofBits .f32 0x3F800000#32 + Ideal.exp (-((D.logit r h : ℝ) : EReal))) = _
  rw [ofBits_one, ← EReal.coe_neg]
  exact coe_sigmoid _

/-! ## The gated sum -/

theorem v152_apply (r : Fin 131072) (h : Fin 4) (d : Fin 32) :
    val_main_v152 (F := Ideal) a0 a1 a2 a3 a4 a7 a8 a11 a12 a13 a14 a15 a16 (ix3 r h d) = ((D.fused r (feat h d) : ℝ) : EReal) := by
  have s32 : idx_main_v32 (ix3 r h d) = ix2 r (feat h d) := split_row r h d
  have s33 : idx_main_v33 (ix3 r h d) = ix2 r (feat h d) := split_row r h d
  have et : val_main_v137 (F := Ideal) a0 a1 a2 a3 a4 a7 a8 a11 a12 a13 a14 a15 a16 (ix2 r h) = ((D.score r h * D.alphaT (Data.headFeat h) : ℝ) : EReal) := by
    have e : idx_main_v135 (idx_main_v136 (ix2 r h)) = ix1 h := eq_ix1 _
    rw [val_main_v137_apply, score_apply H, val_main_v136_apply, val_main_v135_apply, e, alphaT_apply H]
    exact (EReal.coe_mul _ _).symm
  have ei : val_main_v140 (F := Ideal) a0 a1 a2 a3 a4 a7 a8 a11 a12 a13 a14 a15 a16 (ix2 r h) = ((D.score r h * D.alphaI (Data.headFeat h) : ℝ) : EReal) := by
    have e : idx_main_v138 (idx_main_v139 (ix2 r h)) = ix1 h := eq_ix1 _
    rw [val_main_v140_apply, score_apply H, val_main_v139_apply, val_main_v138_apply, e, alphaI_apply H]
    exact (EReal.coe_mul _ _).symm
  have i1 : idx_main_v141 (idx_main_v142 (ix3 r h d)) = ix2 r h := eq_ix2 _
  have i2 : idx_main_v147 (idx_main_v148 (ix3 r h d)) = ix2 r h := eq_ix2 _
  have i3 : idx_main_v146 (idx_main_v150 (ix3 r h d)) = ix2 r h := eq_ix2 _
  rw [val_main_v152_apply, val_main_v143_apply, val_main_v32_apply, s32, tV_apply H, val_main_v142_apply, val_main_v141_apply, i1, et,
    val_main_v151_apply, val_main_v150_apply, val_main_v146_apply, i3, val_main_v145_apply, et, val_main_v144_apply, val_main_cst_26_apply,
    val_main_v149_apply, val_main_v33_apply, s33, iV_apply H, val_main_v148_apply, val_main_v147_apply, i2, ei]
  show ((D.tV r (feat h d) : ℝ) : EReal) * ((D.score r h * D.alphaT (Data.headFeat h) : ℝ) : EReal)
    + (Ideal.ofBits .f32 0x3F800000#32 - ((D.score r h * D.alphaT (Data.headFeat h) : ℝ) : EReal))
      * (((D.iV r (feat h d) : ℝ) : EReal) * ((D.score r h * D.alphaI (Data.headFeat h) : ℝ) : EReal)) = _
  rw [ofBits_one]
  simp only [← EReal.coe_mul, ← EReal.coe_sub, ← EReal.coe_add]
  unfold Data.fused
  rw [Data.hd_feat]

theorem v153_apply (r : Fin 131072) (f : Fin 128) :
    val_main_v153 (F := Ideal) a0 a1 a2 a3 a4 a7 a8 a11 a12 a13 a14 a15 a16 (ix2 r f) = ((D.fused r f : ℝ) : EReal) := by
  have e : idx_main_v153 (ix2 r f) = ix3 r (hd f) (⟨f.val % 32, by omega⟩ : Fin 32) := by
    refine (eq_ix3 _).trans ?_
    have c0 : idx_main_v153 (ix2 r f) 0 = r := Fin.ext (by show (r.val * 128 + f.val) / 128 = r.val; omega)
    have c1 : idx_main_v153 (ix2 r f) 1 = hd f := Fin.ext (by show (r.val * 128 + f.val) / 32 % 4 = f.val / 32; omega)
    have c2 : idx_main_v153 (ix2 r f) 2 = (⟨f.val % 32, by omega⟩ : Fin 32) := Fin.ext (by show (r.val * 128 + f.val) % 32 = f.val % 32; omega)
    rw [c0, c1, c2]; rfl
  have g : feat (hd f) (⟨f.val % 32, by omega⟩ : Fin 32) = f := Fin.ext (by show 32 * (f.val / 32) + f.val % 32 = f.val; omega)
  rw [val_main_v153_apply, e, v152_apply H, g]

/-! ## The output layer -/

/-- The three pieces that the output layer reads. -/
theorem v154_apply (r : Fin 131072) (f : Fin 128) :
    val_main_v154 (F := Ideal) a0 a1 a2 a3 a4 a7 a8 a9 a10 a11 a12 a13 a14 a15 a16 (ix2 r (⟨f.val, by omega⟩ : Fin 384)) = ((D.fused r f : ℝ) : EReal)
      ∧ val_main_v154 (F := Ideal) a0 a1 a2 a3 a4 a7 a8 a9 a10 a11 a12 a13 a14 a15 a16 (ix2 r (⟨128 + f.val, by omega⟩ : Fin 384)) = ((D.tQ r f : ℝ) : EReal)
      ∧ val_main_v154 (F := Ideal) a0 a1 a2 a3 a4 a7 a8 a9 a10 a11 a12 a13 a14 a15 a16 (ix2 r (⟨256 + f.val, by omega⟩ : Fin 384)) = ((D.iQ r f : ℝ) : EReal) := by
  unfold val_main_v154
  refine ⟨?_, ?_, ?_⟩
  · rw [concatenate_apply_piece (1 : Fin S131072x384.rank) _ _ _ 0 (by show 0 < 3; omega) S131072x128 _ rfl rfl 0 rfl (ix2 r f)
      (fun b hb => by match b with | ⟨0, _⟩ => rfl | ⟨1, _⟩ => exact absurd rfl hb) (Nat.zero_add _)]
    exact v153_apply H r f
  · rw [concatenate_apply_piece (1 : Fin S131072x384.rank) _ _ _ 1 (by show 1 < 3; omega) S131072x128 _ rfl rfl 128 rfl (ix2 r f)
      (fun b hb => by match b with | ⟨0, _⟩ => rfl | ⟨1, _⟩ => exact absurd rfl hb) rfl]
    exact tQ_apply H r f
  · rw [concatenate_apply_piece (1 : Fin S131072x384.rank) _ _ _ 2 (by show 2 < 3; omega) S131072x128 _ rfl rfl 256 rfl (ix2 r f)
      (fun b hb => by match b with | ⟨0, _⟩ => rfl | ⟨1, _⟩ => exact absurd rfl hb) rfl]
    exact iQ_apply H r f

/-- The reference's result. -/
theorem result_apply (r : Fin 131072) :
    val_main_v159 (F := Ideal) a0 a1 a2 a3 a4 a7 a8 a9 a10 a11 a12 a13 a14 a15 a16 a17 a18 (ix2 r (0 : Fin 1)) = ((D.out r : ℝ) : EReal) := by
  have e1 : ∀ k, lidx_main_v156 (ix2 r (0 : Fin 1)) k = ix2 r k := fun k => eq_ix2 _
  have e2 : ∀ k, idx_main_v155 (ridx_main_v156 (ix2 r (0 : Fin 1)) k) = ix2 (0 : Fin 1) k := fun k => eq_ix2 _
  have e3 : idx_main_v157 (idx_main_v158 (ix2 r (0 : Fin 1))) = ix1 (0 : Fin 1) := eq_ix1 _
  have t : ∀ k : Fin 384, val_main_v155 (F := Ideal) a17 (ridx_main_v156 (ix2 r (0 : Fin 1)) k) = ((D.wo k : ℝ) : EReal) := fun k => by
    rw [val_main_v155_apply, e2, H.wo]
  rw [val_main_v159_apply, val_main_v158_apply, val_main_v157_apply, e3, H.bo, val_main_v156_apply]
  simp only [e1, t]
  rw [Fin.sum_univ_add (a := 256) (b := 128), Fin.sum_univ_add (a := 128) (b := 128)]
  have p1 : ∀ f : Fin 128, val_main_v154 (F := Ideal) a0 a1 a2 a3 a4 a7 a8 a9 a10 a11 a12 a13 a14 a15 a16 (ix2 r (Fin.castAdd 128 (Fin.castAdd 128 f)))
      * ((D.wo (Fin.castAdd 128 (Fin.castAdd 128 f)) : ℝ) : EReal) = ((D.fused r f * D.wo ⟨f.val, by omega⟩ : ℝ) : EReal) := fun f => by
    rw [EReal.coe_mul]; exact congrArg (· * _) (v154_apply H r f).1
  have p2 : ∀ f : Fin 128, val_main_v154 (F := Ideal) a0 a1 a2 a3 a4 a7 a8 a9 a10 a11 a12 a13 a14 a15 a16 (ix2 r (Fin.castAdd 128 (Fin.natAdd 128 f)))
      * ((D.wo (Fin.castAdd 128 (Fin.natAdd 128 f)) : ℝ) : EReal) = ((D.tQ r f * D.wo ⟨128 + f.val, by omega⟩ : ℝ) : EReal) := fun f => by
    rw [EReal.coe_mul]; exact congrArg (· * _) (v154_apply H r f).2.1
  have p3 : ∀ f : Fin 128, val_main_v154 (F := Ideal) a0 a1 a2 a3 a4 a7 a8 a9 a10 a11 a12 a13 a14 a15 a16 (ix2 r (Fin.natAdd 256 f))
      * ((D.wo (Fin.natAdd 256 f) : ℝ) : EReal) = ((D.iQ r f * D.wo ⟨256 + f.val, by omega⟩ : ℝ) : EReal) := fun f => by
    rw [EReal.coe_mul]; exact congrArg (· * _) (v154_apply H r f).2.2
  rw [Finset.sum_congr rfl fun f _ => p1 f, Finset.sum_congr rfl fun f _ => p2 f, Finset.sum_congr rfl fun f _ => p3 f, coe_sum, coe_sum, coe_sum,
    ← EReal.coe_add, ← EReal.coe_add]
  exact (EReal.coe_add _ _).symm

end

end Cert.ReferenceIdeal.Value
-- ==== Proof.Fusion.Finite.lean ====
/-
  The precondition read back: every number the formula reads is finite and every label is 0 or 1, so the arrays hold the real
  numbers of a `Data`.
-/
module

public import proofs.«01_k».proof.Proof.Fusion.Holds
public import proofs.«01_k».proof.Pre_finite_floats_binary_labels
public import Idealize.ShloMosaic.Lib.ReduceAll

@[expose] public section

open Idealize.ShloMosaic Idealize.ShloMosaic.ValueIdx

namespace Fusion

/-- The side conditions of the precondition's operations. -/
theorem finiteFacts : Cert.Pre_finite_floats_binary_labels.Facts where
  bcast_S_S131072 := by decide
  reducesTo_S131072_S_d0 := by decide
  h_S_ := by decide
  bcast_S_S131072x256 := by decide
  reducesTo_S131072x256_S_d0_1 := by decide
  bcast_S_S128x256 := by decide
  reducesTo_S128x256_S_d0_1 := by decide
  bcast_S_S128 := by decide
  reducesTo_S128_S_d0 := by decide
  bcast_S_S4x64 := by decide
  reducesTo_S4x64_S_d0_1 := by decide
  bcast_S_S4 := by decide
  reducesTo_S4_S_d0 := by decide
  bcast_S_S1x384 := by decide
  reducesTo_S1x384_S_d0_1 := by decide
  bcast_S_S1 := by decide
  reducesTo_S1_S_d0 := by decide

theorem ofBits_top : Ideal.ofBits .f32 0x7F800000#32 = ⊤ := by simp [Ideal.ofBits, Ideal.ieee]

/-- A number below infinity in absolute value is the real number it reads as. -/
theorem coe_of_below (x : EReal) (h : Ideal.cmp .olt (max x (-x)) (Ideal.ofBits .f32 0x7F800000#32) = 1#1) : x = ((x.toReal : ℝ) : EReal) := by
  rw [ofBits_top] at h
  induction x with
  | bot => simp [Ideal.cmp] at h
  | top => simp [Ideal.cmp] at h
  | coe a => rfl

section

open Cert.Pre_finite_floats_binary_labels

instance : Subsingleton S_.Idx := ⟨fun i j => (eq_ix0 i).trans (eq_ix0 j).symm⟩

/-- Every element of an array that passes the finiteness test is real. -/
theorem coe_of_all {s : Shape} {axes : List (Fin s.rank)} (x : s.Idx → EReal) (hb : S_.BroadcastsInDim s (![] : Fin 0 → Fin s.rank))
    (h : s.ReducesTo axes S_) (hu : 0 < S_.numel)
    (e : Host.reduce IntOp.andi (cmpf (F := Ideal) (φ := .f32) .olt (Host.absf (F := Ideal) (φ := .f32) x)
      (broadcastInDim s ![] hb (constant (F := Ideal) S_ .f32 0x7F800000#32))) (constantI S_ 1 1#1) h hu ix0 = 1#1) (i : s.Idx) :
    x i = (((x i).toReal : ℝ) : EReal) :=
  coe_of_below _ (Host.reduce_andi_all _ _ h hu ix0 e i)

/-- Every label of an array that passes the label test is 0 or 1. -/
theorem label_of_all {s : Shape} {axes : List (Fin s.rank)} (x : s.Idx → BitVec 32) (hb : S_.BroadcastsInDim s (![] : Fin 0 → Fin s.rank))
    (h : s.ReducesTo axes S_) (hu : 0 < S_.numel)
    (e : Host.reduce IntOp.andi (ori (cmpi .eq x (broadcastInDim s ![] hb (constantI S_ 32 0#32)))
      (cmpi .eq x (broadcastInDim s ![] hb (constantI S_ 32 1#32)))) (constantI S_ 1 1#1) h hu ix0 = 1#1) (i : s.Idx) :
    x i = (BitVec.ofBool (decide (x i = 1#32))).setWidth 32 := by
  have t := Host.reduce_andi_all _ _ h hu ix0 e i
  have t' : BitVec.ofBool (decide (x i = 0#32)) ||| BitVec.ofBool (decide (x i = 1#32)) = 1#1 := t
  by_cases h1 : x i = 1#32
  · rw [h1]; rfl
  · by_cases h0 : x i = 0#32
    · rw [h0]; rfl
    · simp [h0, h1] at t'

end

/-- The real numbers that the arrays read as. -/
noncomputable def Data.of (a0 a1 : Mat 131072 256) (a2 : Words 131072) (a3 : Mat 128 256) (a4 : Vect 128) (a7 : Mat 128 256) (a8 : Vect 128)
    (a9 : Mat 128 256) (a10 : Vect 128) (a11 : Mat 128 256) (a12 : Vect 128) (a13 : Mat 128 256) (a14 : Vect 128) (a15 : Mat 4 64) (a16 : Vect 4)
    (a17 : Mat 1 384) (a18 : Vect 1) : Data where
  xt r k := (a0 (ix2 r k)).toReal
  xi r k := (a1 (ix2 r k)).toReal
  lab r := decide (a2 (ix1 r) = 1#32)
  wtq f k := (a3 (ix2 f k)).toReal
  btq f := (a4 (ix1 f)).toReal
  wtv f k := (a7 (ix2 f k)).toReal
  btv f := (a8 (ix1 f)).toReal
  wiq f k := (a9 (ix2 f k)).toReal
  biq f := (a10 (ix1 f)).toReal
  wik f k := (a11 (ix2 f k)).toReal
  bik f := (a12 (ix1 f)).toReal
  wiv f k := (a13 (ix2 f k)).toReal
  biv f := (a14 (ix1 f)).toReal
  aw h k := (a15 (ix2 h k)).toReal
  ab h := (a16 (ix1 h)).toReal
  wo k := (a17 (ix2 (0 : Fin 1) k)).toReal
  bo := (a18 (ix1 (0 : Fin 1))).toReal

open Cert.Pre_finite_floats_binary_labels in
/-- Arrays that satisfy the precondition hold the real numbers they read as. -/
theorem holds_of_pre [Facts] (a0 a1 : Mat 131072 256) (a2 : Words 131072) (a3 : Mat 128 256) (a4 : Vect 128) (a5 : Mat 128 256) (a6 : Vect 128)
    (a7 : Mat 128 256) (a8 : Vect 128) (a9 : Mat 128 256) (a10 : Vect 128) (a11 : Mat 128 256) (a12 : Vect 128) (a13 : Mat 128 256) (a14 : Vect 128)
    (a15 : Mat 4 64) (a16 : Vect 4) (a17 : Mat 1 384) (a18 : Vect 1)
    (h : fn (F := Ideal) a0 a1 a2 a3 a4 a5 a6 a7 a8 a9 a10 a11 a12 a13 a14 a15 a16 a17 a18 = fun _ => 1#1) :
    Holds (Data.of a0 a1 a2 a3 a4 a7 a8 a9 a10 a11 a12 a13 a14 a15 a16 a17 a18) a0 a1 a2 a3 a4 a7 a8 a9 a10 a11 a12 a13 a14 a15 a16 a17 a18 := by
  have h := congrFun h ix0
  unfold fn fn_part1 fn_part2 fn_part3 fn_part4 fn_part5 at h
  dsimp only at h
  obtain ⟨h, h18⟩ := IntOp.andi_eq_one.1 h
  obtain ⟨h, h17⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h4⟩ := IntOp.andi_eq_one.1 h
  obtain ⟨h, h3⟩ := IntOp.andi_eq_one.1 h
  obtain ⟨h, h1⟩ := IntOp.andi_eq_one.1 h
  obtain ⟨h2, h0⟩ := IntOp.andi_eq_one.1 h
  exact {
    xt := fun r k => coe_of_all a0 _ _ _ h0 _
    xi := fun r k => coe_of_all a1 _ _ _ h1 _
    lab := fun r => label_of_all a2 _ _ _ h2 _
    tq := ⟨fun f k => coe_of_all a3 _ _ _ h3 _, fun f => coe_of_all a4 _ _ _ h4 _⟩
    tv := ⟨fun f k => coe_of_all a7 _ _ _ h7 _, fun f => coe_of_all a8 _ _ _ h8 _⟩
    iq := ⟨fun f k => coe_of_all a9 _ _ _ h9 _, fun f => coe_of_all a10 _ _ _ h10 _⟩
    ik := ⟨fun f k => coe_of_all a11 _ _ _ h11 _, fun f => coe_of_all a12 _ _ _ h12 _⟩
    iv := ⟨fun f k => coe_of_all a13 _ _ _ h13 _, fun f => coe_of_all a14 _ _ _ h14 _⟩
    aw := fun h k => coe_of_all a15 _ _ _ h15 _
    ab := fun h => coe_of_all a16 _ _ _ h16 _
    wo := fun k => coe_of_all a17 _ _ _ h17 _
    bo := coe_of_all a18 _ _ _ h18 _ }

end Fusion
-- ==== Proof.Equation.lean ====
/-
  The equation: at exact arithmetic, from memories that agree on the arguments and meet the precondition, the kernel and the reference end with
  the same result, each row's result over the real numbers the arguments hold.
-/
module

public import proofs.«01_k».proof.Defs
public import proofs.«01_k».proof.Proof.KernelIdeal.Value
public import proofs.«01_k».proof.Proof.ReferenceIdeal.Output
public import proofs.«01_k».proof.Proof.ReferenceIdeal.Result
public import proofs.«01_k».proof.Proof.Fusion.Finite

@[expose] public section

noncomputable section

open Idealize.ShloMosaic Idealize.ShloMosaic.TcCoe Idealize.ShloMosaic.ValueIdx Idealize.SL.Sem Fusion

namespace Cert.Equation

/-- What each row of a result array holds. -/
def rows (D : Data) : Mat 131072 1 := fun i => ((D.out (i 0) : ℝ) : EReal)

/-- A result array read row by row. -/
theorem eq_rows {D : Data} (x : Mat 131072 1) (h : ∀ r, x (ix2 r (0 : Fin 1)) = ((D.out r : ℝ) : EReal)) : x = rows D := by
  funext i
  have h1 : (i 1 : Nat) < 1 := (i 1).isLt
  have e : i = ix2 (⟨(i 0).val, (i 0).isLt⟩ : Fin 131072) (0 : Fin 1) := by
    funext a
    apply Fin.ext
    match a with
    | ⟨0, _⟩ => rfl
    | ⟨1, _⟩ => show (i 1 : Nat) = 0; omega
  exact (congrArg x e).trans (h _)

section Kernel

open Cert.KernelIdeal Cert.KernelIdeal.Gen Cert.KernelIdeal.Run

variable (m : (ℓ : Loc nD τ sig) → Buf (Elt Ideal) ℓ) (g : Dev nD → PrngReg)

/-- The data a core's arguments hold. -/
abbrev dataOf (c : Dev nD) : Data :=
  Data.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

theorem kernel_run (H : ∀ c, Cert.KernelIdeal.Value.HoldsAt m c (dataOf m c)) :
    θ_run defs (onTc (τ := τ) (main (F := Ideal))) ⟨m, fun _ => 0, g⟩ (fun r => ∀ c : Dev nD,
      r.2.mem ((c.tc : Thread nD τ).loc main_v95) = rows (dataOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
      have keep : ∀ a : Ref sig .tc, ¬ (Proc.devRef .tc a : DevRef τ sig).isScoped → a ∈ argRefs →
          r.2.mem ((c.tc : Thread nD τ).loc a) = m ((c.tc : Thread nD τ).loc a) :=
        fun a hs ha => (h.1 c _ (mem_uc a hs)).trans (W6_args m g c a ha)
      exact ⟨(h.1 c _ (mem_uc main_v95 (by decide))).trans (eq_rows _ (Cert.KernelIdeal.Value.result m g c (H c))),
        keep main_arg0 (by decide) (by decide),
        keep main_arg1 (by decide) (by decide),
        keep main_arg2 (by decide) (by decide),
        keep main_arg3 (by decide) (by decide),
        keep main_arg4 (by decide) (by decide),
        keep main_arg5 (by decide) (by decide),
        keep main_arg6 (by decide) (by decide),
        keep main_arg7 (by decide) (by decide),
        keep main_arg8 (by decide) (by decide),
        keep main_arg9 (by decide) (by decide),
        keep main_arg10 (by decide) (by decide),
        keep main_arg11 (by decide) (by decide),
        keep main_arg12 (by decide) (by decide),
        keep main_arg13 (by decide) (by decide),
        keep main_arg14 (by decide) (by decide),
        keep main_arg15 (by decide) (by decide),
        keep main_arg16 (by decide) (by decide),
        keep main_arg17 (by decide) (by decide),
        keep main_arg18 (by decide) (by decide)⟩)
    (run m g)

end Kernel

section Reference

open Cert.ReferenceIdeal Cert.ReferenceIdeal.Gen

variable (m : (ℓ : Loc nD τ sig) → Buf (Elt Ideal) ℓ) (g : Dev nD → PrngReg)

theorem reference_run (D : Dev nD → Data)
    (H : ∀ c : Dev nD, Holds (D c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) :
    θ_run defs (onTc (τ := τ) (main (F := Ideal))) ⟨m, fun _ => 0, g⟩ (fun r => ∀ c : Dev nD,
      r.2.mem ((c.tc : Thread nD τ).loc main_v159) = rows (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
      ⟨(h c).1.trans ((Cert.ReferenceIdeal.Read.val_main_v159_eq (StableHlo.launchContents m c)).trans
        (eq_rows _ fun r => Cert.ReferenceIdeal.Value.result_apply (H c) r)), (h c).2⟩)
    (Cert.ReferenceIdeal.Value.run m g)

end Reference

theorem algebraic : Cert.algebraic_KernelIdeal_ReferenceIdeal_pre_finite_floats_binary_labels
    (hPre_finite_floats_binary_labels := finiteFacts) := by
  intro m g m' g' pre hm
  have H : ∀ c, Cert.KernelIdeal.Value.HoldsAt m c (dataOf m c) := fun c =>
    @holds_of_pre finiteFacts _ _ _ _ _ _ _ _ _ _ _ _ _ _ _ _ _ _ _ (pre c)
  refine ⟨fun c => rows (dataOf m c), kernel_run m g H, reference_run m' g' (fun c => dataOf m c) fun c => ?_⟩
  obtain ⟨e0, e1, e2, e3, e4, e5, e6, e7, e8, e9, e10, e11, e12, e13, e14, e15, e16, e17, e18⟩ := hm c
  rw [e0, e1, e2, e3, e4, e7, e8, e9, e10, e11, e12, e13, e14, e15, e16, e17, e18]
  exact H c

end Cert.Equation

end
-- ==== Proof.lean ====
module

public import proofs.«01_k».proof.Defs
public import proofs.«01_k».proof.Proof.Kernel.Run
public import proofs.«01_k».proof.Proof.KernelIdeal.Run
public import proofs.«01_k».proof.Proof.ReferenceIdeal.Result
public import proofs.«01_k».proof.Proof.Equation

@[expose] public section

noncomputable section

namespace Cert.Proof

open Idealize.ShloMosaic Idealize.SL.Sem

/-- The certificate: the frames of the kernel as compiled, of the kernel at exact arithmetic and of the reference; the two places
    where the kernel's high-half idiom is read as rounding to bfloat16; and the equality of the results. -/
theorem claim : Cert.Claim :=
  ⟨inferInstance, inferInstance, inferInstance, Fusion.finiteFacts,
    fun m ρ _ => Cert.Kernel.Run.frame m ρ,
    fun m ρ _ => Cert.KernelIdeal.Run.frame m ρ,
    fun m ρ _ => Cert.KernelIdeal.Run.frame m ρ,
    fun m ρ _ => Cert.ReferenceIdeal.Run.frame m ρ,
    fun m ρ _ => Cert.ReferenceIdeal.Run.frame m ρ,
    ⟨IdealRules.bf16_pack.statement _, IdealRules.bf16_pack.statement _⟩,
    Cert.Equation.algebraic⟩

end Cert.Proof

end
